-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x16384 : Shape := ⟨3, ![8, 256, 16384]⟩
abbrev S256 : Shape := ⟨1, ![256]⟩
abbrev S_ : Shape := ⟨0, ![]⟩

class Facts : Prop where
  bcast_S_S8x256x16384 : S_.BroadcastsInDim S8x256x16384 (![] : Fin 0 → Fin S8x256x16384.rank)
  bcast_S_S256 : S_.BroadcastsInDim S256 (![] : Fin 0 → Fin S256.rank)

variable [Facts]

def fn {F : FTy → Type} [FloatOps F] (main_arg0 : FVec F S8x256x16384 .f32) (main_arg1 : FVec F S256 .f32) (main_arg2 : FVec F S256 .f32) (main_arg3 : FVec F S256 .f32) (main_arg4 : FVec F S256 .f32) : IVec S8x256x16384 1 × IVec S256 1 × IVec S256 1 :=
  let main_v0 : FVec F S8x256x16384 .f32 := Host.absf main_arg0
  let main_cst : FVec F S_ .f32 := constant S_ .f32 0x7F800000#32
  let main_v1 : FVec F S8x256x16384 .f32 := broadcastInDim S8x256x16384 ![] bcast_S_S8x256x16384 main_cst
  let main_v2 : IVec S8x256x16384 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_cst_1 : FVec F S_ .f32 := constant S_ .f32 0x7F800000#32
  let main_v6 : FVec F S256 .f32 := broadcastInDim S256 ![] bcast_S_S256 main_cst_1
  let main_v7 : IVec S256 1 := cmpf .olt main_arg2 main_v6
  (main_v2, main_v5, main_v7)
-- ==== Kernel.lean ====
abbrev S8x256x16384 : Shape := ⟨3, ![8, 256, 16384]⟩
abbrev S256 : Shape := ⟨1, ![256]⟩
abbrev S_ : Shape := ⟨0, ![]⟩
abbrev S8x1024 : Shape := ⟨2, ![8, 1024]⟩
abbrev S1 : Shape := ⟨1, ![1]⟩
abbrev S2 : Shape := ⟨1, ![2]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S256x1 : Shape := ⟨2, ![256, 1]⟩
abbrev S4x256x512 : Shape := ⟨3, ![4, 256, 512]⟩
abbrev S8x128 : Shape := ⟨2, ![8, 128]⟩
abbrev S1024x512 : Shape := ⟨2, ![1024, 512]⟩
abbrev S8x512 : Shape := ⟨2, ![8, 512]⟩
abbrev S4x512 : Shape := ⟨2, ![4, 512]⟩
abbrev S1x1024 : Shape := ⟨2, ![1, 1024]⟩
abbrev S1x1x1024 : Shape := ⟨3, ![1, 1, 1024]⟩
abbrev S1x1x1 : Shape := ⟨3, ![1, 1, 1]⟩
abbrev S4x1 : Shape := ⟨2, ![4, 1]⟩
abbrev S4x1x512 : Shape := ⟨3, ![4, 1, 512]⟩
abbrev S1x256x1 : Shape := ⟨3, ![1, 256, 1]⟩

abbrev nBuf : Space → Nat
  | .hbm => 115
  | .vmem => 11
  | .smem => 0
  | _ => 0

abbrev bufTy : (tb : Table) → Fin (tcTables nBuf tb) → BufTy
  | .hbm, ⟨0, _⟩ => ⟨S8x256x16384, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x1024, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x1024, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x1024, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x1024, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S8x1024, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S8x1024, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S8x1024, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S8x1024, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S8x1024, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S8x1024, .f32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S2, .i32⟩
  | .hbm, ⟨75, _⟩ => ⟨S8x1024, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S8x1024, .f32⟩
  | .hbm, ⟨82, _⟩ => ⟨S512, .i32⟩
  | .hbm, ⟨83, _⟩ => ⟨S1x512, .i32⟩
  | .hbm, ⟨84, _⟩ => ⟨S512x1, .i32⟩
  | .hbm, ⟨85, _⟩ => ⟨S512x512, .i32⟩
  | .hbm, ⟨86, _⟩ => ⟨S512x512, .i32⟩
  | .hbm, ⟨87, _⟩ => ⟨S512x512, .i32⟩
  | .hbm, ⟨88, _⟩ => ⟨S_, .i32⟩
  | .hbm, ⟨89, _⟩ => ⟨S512x512, .i32⟩
  | .hbm, ⟨90, _⟩ => ⟨S512x512, .i1⟩
  | .hbm, ⟨91, _⟩ => ⟨S512x512, .f32⟩
  | .hbm, ⟨92, _⟩ => ⟨S_, .f32⟩
  | .hbm, ⟨93, _⟩ => ⟨S512x512, .f32⟩
  | .hbm, ⟨94, _⟩ => ⟨S512x512, .f32⟩
  | .hbm, ⟨95, _⟩ => ⟨S512x512, .f32⟩
  | .hbm, ⟨96, _⟩ => ⟨S_, .f32⟩
  | .hbm, ⟨97, _⟩ => ⟨S512x512, .f32⟩
  | .hbm, ⟨98, _⟩ => ⟨S512x512, .f32⟩
  | .hbm, ⟨99, _⟩ => ⟨S_, .f32⟩
  | .hbm, ⟨100, _⟩ => ⟨S_, .f32⟩
  | .hbm, ⟨101, _⟩ => ⟨S512x512, .f32⟩
  | .hbm, ⟨102, _⟩ => ⟨S512x512, .f32⟩
  | .hbm, ⟨103, _⟩ => ⟨S_, .i32⟩
  | .hbm, ⟨104, _⟩ => ⟨S512, .i32⟩
  | .hbm, ⟨105, _⟩ => ⟨S512, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512, .f32⟩
  | .hbm, ⟨111, _⟩ => ⟨S1x512, .f32⟩
  | .hbm, ⟨112, _⟩ => ⟨S256x1, .f32⟩
  | .hbm, ⟨113, _⟩ => ⟨S256x1, .f32⟩
  | .hbm, ⟨114, _⟩ => ⟨S8x256x16384, .f32⟩
  | .local _ .vmem, ⟨0, _⟩ => ⟨S8x1024, .f32⟩
  | .local _ .vmem, ⟨1, _⟩ => ⟨S8x1024, .f32⟩
  | .local _ .vmem, ⟨2, _⟩ => ⟨S512x512, .f32⟩
  | .local _ .vmem, ⟨3, _⟩ => ⟨S1x512, .f32⟩
  | .local _ .vmem, ⟨4, _⟩ => ⟨S256x1, .f32⟩
  | .local _ .vmem, ⟨5, _⟩ => ⟨S256x1, .f32⟩
  | .local _ .vmem, ⟨6, _⟩ => ⟨S4x256x512, .f32⟩
  | .local _ .vmem, ⟨7, _⟩ => ⟨S4x256x512, .f32⟩
  | .local _ .vmem, ⟨8, _⟩ => ⟨S4x256x512, .f32⟩
  | .local _ .vmem, ⟨9, _⟩ => ⟨S4x256x512, .f32⟩
  | .local _ .vmem, ⟨10, _⟩ => ⟨S8x128, .f32⟩
  | _, _ => ⟨S8x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_10 : Ref sig .tc := ⟨.hbm, 40, rfl⟩
abbrev main_v23 : Ref sig .tc := ⟨.hbm, 41, rfl⟩
abbrev main_c_11 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_12 : Ref sig .tc := ⟨.hbm, 46, rfl⟩
abbrev main_v27 : Ref sig .tc := ⟨.hbm, 47, rfl⟩
abbrev main_c_13 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_14 : Ref sig .tc := ⟨.hbm, 52, rfl⟩
abbrev main_v31 : Ref sig .tc := ⟨.hbm, 53, rfl⟩
abbrev main_c_15 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_16 : Ref sig .tc := ⟨.hbm, 58, rfl⟩
abbrev main_v35 : Ref sig .tc := ⟨.hbm, 59, rfl⟩
abbrev main_c_17 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_18 : Ref sig .tc := ⟨.hbm, 64, rfl⟩
abbrev main_v39 : Ref sig .tc := ⟨.hbm, 65, rfl⟩
abbrev main_c_19 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_20 : Ref sig .tc := ⟨.hbm, 70, rfl⟩
abbrev main_v43 : Ref sig .tc := ⟨.hbm, 71, rfl⟩
abbrev main_c_21 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_22 : Ref sig .tc := ⟨.hbm, 76, rfl⟩
abbrev main_v47 : Ref sig .tc := ⟨.hbm, 77, rfl⟩
abbrev main_c_23 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_24 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_25 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_26 : Ref sig .tc := ⟨.hbm, 96, rfl⟩
abbrev main_v63 : Ref sig .tc := ⟨.hbm, 97, rfl⟩
abbrev main_v64 : Ref sig .tc := ⟨.hbm, 98, rfl⟩
abbrev main_cst_27 : Ref sig .tc := ⟨.hbm, 99, rfl⟩
abbrev main_call0_v0 : Ref sig .tc := ⟨.hbm, 100, rfl⟩
abbrev main_call0_v1 : Ref sig .tc := ⟨.hbm, 101, rfl⟩
abbrev main_v65 : Ref sig .tc := ⟨.hbm, 102, rfl⟩
abbrev main_c_28 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_29 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x256x16384 : Shape := ⟨3, ![8, 256, 16384]⟩
abbrev S256 : Shape := ⟨1, ![256]⟩
abbrev S16384x8x256 : Shape := ⟨3, ![16384, 8, 256]⟩
abbrev S1x8x256 : Shape := ⟨3, ![1, 8, 256]⟩
abbrev S8x256 : Shape := ⟨2, ![8, 256]⟩
abbrev S_ : Shape := ⟨0, ![]⟩
abbrev S8x16384 : Shape := ⟨2, ![8, 16384]⟩
abbrev S8x1x16384 : Shape := ⟨3, ![8, 1, 16384]⟩
abbrev S1x256x1 : Shape := ⟨3, ![1, 256, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x256x16384, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S16384x8x256, .f32⟩
  | .hbm, ⟨6, _⟩ => ⟨S1x8x256, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x8x256, .f32⟩
  | .hbm, ⟨14, _⟩ => ⟨S_, .i32⟩
  | .hbm, ⟨15, _⟩ => ⟨S16384x8x256, .f32⟩
  | .hbm, ⟨16, _⟩ => ⟨S_, .f32⟩
  | .hbm, ⟨17, _⟩ => ⟨S_, .f32⟩
  | .hbm, ⟨18, _⟩ => ⟨S_, .i32⟩
  | .hbm, ⟨19, _⟩ => ⟨S8x256, .f32⟩
  | .hbm, ⟨20, _⟩ => ⟨S16384x8x256, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S1x8x256, .f32⟩
  | .hbm, ⟨33, _⟩ => ⟨S_, .i32⟩
  | .hbm, ⟨34, _⟩ => ⟨S_, .i32⟩
  | .hbm, ⟨35, _⟩ => ⟨S16384x8x256, .f32⟩
  | .hbm, ⟨36, _⟩ => ⟨S_, .i32⟩
  | .hbm, ⟨37, _⟩ => ⟨S_, .i32⟩
  | .hbm, ⟨38, _⟩ => ⟨S8x256x16384, .f32⟩
  | .hbm, ⟨39, _⟩ => ⟨S8x16384, .f32⟩
  | .hbm, ⟨40, _⟩ => ⟨S8x1x16384, .f32⟩
  | .hbm, ⟨41, _⟩ => ⟨S8x256x16384, .f32⟩
  | .hbm, ⟨42, _⟩ => ⟨S8x256x16384, .f32⟩
  | .hbm, ⟨43, _⟩ => ⟨S8x256x16384, .f32⟩
  | .hbm, ⟨44, _⟩ => ⟨S16384x8x256, .f32⟩
  | .hbm, ⟨45, _⟩ => ⟨S1x8x256, .f32⟩
  | .hbm, ⟨46, _⟩ => ⟨S8x256, .f32⟩
  | .hbm, ⟨47, _⟩ => ⟨S_, .f32⟩
  | .hbm, ⟨48, _⟩ => ⟨S8x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16384x8x256, .f32⟩
  | .hbm, ⟨53, _⟩ => ⟨S_, .i32⟩
  | .hbm, ⟨54, _⟩ => ⟨S16384x8x256, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S8x256, .f32⟩
  | .hbm, ⟨59, _⟩ => ⟨S16384x8x256, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1x8x256, .f32⟩
  | .hbm, ⟨65, _⟩ => ⟨S8x256, .f32⟩
  | .hbm, ⟨66, _⟩ => ⟨S8x256, .f32⟩
  | .hbm, ⟨67, _⟩ => ⟨S8x256, .f32⟩
  | .hbm, ⟨68, _⟩ => ⟨S8x256, .f32⟩
  | .hbm, ⟨69, _⟩ => ⟨S8x256, .f32⟩
  | .hbm, ⟨70, _⟩ => ⟨S8x256, .f32⟩
  | .hbm, ⟨71, _⟩ => ⟨S1x8x256, .f32⟩
  | .hbm, ⟨72, _⟩ => ⟨S_, .i32⟩
  | .hbm, ⟨73, _⟩ => ⟨S_, .i32⟩
  | .hbm, ⟨74, _⟩ => ⟨S16384x8x256, .f32⟩
  | .hbm, ⟨75, _⟩ => ⟨S_, .i32⟩
  | .hbm, ⟨76, _⟩ => ⟨S_, .i32⟩
  | .hbm, ⟨77, _⟩ => ⟨S8x256x16384, .f32⟩
  | .hbm, ⟨78, _⟩ => ⟨S256, .f32⟩
  | .hbm, ⟨79, _⟩ => ⟨S8x16384, .f32⟩
  | .hbm, ⟨80, _⟩ => ⟨S8x1x16384, .f32⟩
  | .hbm, ⟨81, _⟩ => ⟨S_, .f32⟩
  | .hbm, ⟨82, _⟩ => ⟨S8x1x16384, .f32⟩
  | .hbm, ⟨83, _⟩ => ⟨S8x1x16384, .f32⟩
  | .hbm, ⟨84, _⟩ => ⟨S8x1x16384, .f32⟩
  | .hbm, ⟨85, _⟩ => ⟨S8x256x16384, .f32⟩
  | .hbm, ⟨86, _⟩ => ⟨S8x256x16384, .f32⟩
  | .hbm, ⟨87, _⟩ => ⟨S1x256x1, .f32⟩
  | .hbm, ⟨88, _⟩ => ⟨S8x256x16384, .f32⟩
  | .hbm, ⟨89, _⟩ => ⟨S8x256x16384, .f32⟩
  | .hbm, ⟨90, _⟩ => ⟨S1x256x1, .f32⟩
  | .hbm, ⟨91, _⟩ => ⟨S8x256x16384, .f32⟩
  | .hbm, ⟨92, _⟩ => ⟨S8x256x16384, .f32⟩
  | _, _ => ⟨S8x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_v4 : Ref sig .tc := ⟨.hbm, 13, rfl⟩
abbrev main_c : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_while0c_c_14 : Ref sig .tc := ⟨.hbm, 21, rfl⟩
abbrev main_while0c_v33 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v33 : Ref sig .tc := ⟨.hbm, 26, rfl⟩
abbrev main_while0b_v34 : Ref sig .tc := ⟨.hbm, 27, rfl⟩
abbrev main_while0b_v35 : Ref sig .tc := ⟨.hbm, 28, rfl⟩
abbrev main_while0b_v36 : Ref sig .tc := ⟨.hbm, 29, rfl⟩
abbrev main_while0b_v37 : Ref sig .tc := ⟨.hbm, 30, rfl⟩
abbrev main_while0b_v38 : Ref sig .tc := ⟨.hbm, 31, rfl⟩
abbrev main_while0b_call1_v0 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_v39 : Ref sig .tc := ⟨.hbm, 35, rfl⟩
abbrev main_while0b_c_14 : Ref sig .tc := ⟨.hbm, 36, rfl⟩
abbrev main_while0b_v40 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_cst_4 : Ref sig .tc := ⟨.hbm, 49, rfl⟩
abbrev main_cst_5 : Ref sig .tc := ⟨.hbm, 50, rfl⟩
abbrev main_cst_6 : Ref sig .tc := ⟨.hbm, 51, rfl⟩
abbrev main_v16 : Ref sig .tc := ⟨.hbm, 52, rfl⟩
abbrev main_c_7 : Ref sig .tc := ⟨.hbm, 53, rfl⟩
abbrev main_v17_0 : Ref sig .tc := ⟨.hbm, 54, rfl⟩
abbrev main_v17_1 : Ref sig .tc := ⟨.hbm, 55, rfl⟩
abbrev main_v17_2 : Ref sig .tc := ⟨.hbm, 56, rfl⟩
abbrev main_v17_3 : Ref sig .tc := ⟨.hbm, 57, rfl⟩
abbrev main_v17_4 : Ref sig .tc := ⟨.hbm, 58, rfl⟩
abbrev main_v17_5 : Ref sig .tc := ⟨.hbm, 59, rfl⟩
abbrev main_while1c_c_14 : Ref sig .tc := ⟨.hbm, 60, rfl⟩
abbrev main_while1c_v33 : Ref sig .tc := ⟨.hbm, 61, rfl⟩
abbrev main_while1b_call2_c : Ref sig .tc := ⟨.hbm, 62, rfl⟩
abbrev main_while1b_call2_c_0 : Ref sig .tc := ⟨.hbm, 63, rfl⟩
abbrev main_while1b_call2_v0 : Ref sig .tc := ⟨.hbm, 64, rfl⟩
abbrev main_while1b_v33 : Ref sig .tc := ⟨.hbm, 65, rfl⟩
abbrev main_while1b_v34 : Ref sig .tc := ⟨.hbm, 66, rfl⟩
abbrev main_while1b_v35 : Ref sig .tc := ⟨.hbm, 67, rfl⟩
abbrev main_while1b_v36 : Ref sig .tc := ⟨.hbm, 68, rfl⟩
abbrev main_while1b_v37 : Ref sig .tc := ⟨.hbm, 69, rfl⟩
abbrev main_while1b_v38 : Ref sig .tc := ⟨.hbm, 70, rfl⟩
abbrev main_while1b_call3_v0 : Ref sig .tc := ⟨.hbm, 71, rfl⟩
abbrev main_while1b_call3_c : Ref sig .tc := ⟨.hbm, 72, rfl⟩
abbrev main_while1b_call3_c_0 : Ref sig .tc := ⟨.hbm, 73, rfl⟩
abbrev main_while1b_v39 : Ref sig .tc := ⟨.hbm, 74, rfl⟩
abbrev main_while1b_c_14 : Ref sig .tc := ⟨.hbm, 75, rfl⟩
abbrev main_while1b_v40 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_cst_8 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩

abbrev nD : Nat := 1
abbrev τ : Topo := Topo.v7x

variable {F : FTy → Type} [FloatOps F]

abbrev main_while0_count : Scf.Loop 32 := ⟨0#32, 16384#32, 1#32⟩

abbrev main_while1_count : Scf.Loop 32 := ⟨0#32, 16384#32, 1#32⟩
-- ==== Proof.HostRows.lean ====
module

public import proofs.«01_k».proof.Proof.Gen.KernelIdeal.Value
public import Idealize.ShloMosaic.Lib.Routing.OpsOne
public import Idealize.ShloMosaic.Lib.Pointwise

/-!
The stacked weight tables start from zero and take one stretch of 256 weights after another, each set into a part of
one row. Here is what one such write does to the table.
-/

@[expose] public section

set_option maxRecDepth 16384

namespace Cert.KernelValue

open Idealize.ShloMosaic Cert.KernelIdeal Cert.KernelIdeal.Gen

/-- The table `x` with the 256 entries of `u` set into row `i` from column `j` on. -/
def place {α : Type} (i j : ℕ) (u : S256.Idx → α) (x : S8x1024.Idx → α) : S8x1024.Idx → α := fun p =>
  if (p 0).val = i ∧ j ≤ (p 1).val ∧ (p 1).val < j + 256 then u (ix1 ⟨((p 1).val - j) % 256, Nat.mod_lt _ (by decide)⟩) else x p

/-- Entry `k` of the written stretch lands at row `r` and column `q` exactly when the first index word is `r` and the
second plus `k` is `q`. -/
theorem lands_row (idx : IVec S2 32) (k : S256.Idx) (r : Fin 8) (q : Fin 1024) :
    scatter_S8x1024_S2_S256_0_0_01_0.resultIdx? k idx = some (ix2 r q)
      ↔ (idx (ix1 (0 : Fin 2))).toInt = r.val ∧ (idx (ix1 (1 : Fin 2))).toInt + ((k 0).val : Int) = q.val := by
  have start : ∀ p : Fin 2, scatter_S8x1024_S2_S256_0_0_01_0.start k idx p = (idx (ix1 p)).toInt := fun p =>
    Routing.start_pair (R := 8) (C := 1024) scatter_S8x1024_S2_S256_0_0_01_0 rfl rfl idx k p
  have row : scatter_S8x1024_S2_S256_0_0_01_0.window k 0 = 0 := rfl
  have column : scatter_S8x1024_S2_S256_0_0_01_0.window k 1 = (k 0).val := rfl
  have := Routing.resultIdx?_ix2 (R := 8) (C := 1024) scatter_S8x1024_S2_S256_0_0_01_0 k idx r q
  rw [start, start, row, column] at this
  refine this.trans ?_
  omega

/-- A write whose two index words are `i` and `j`, with room for the whole stretch in the row, is `place i j`. -/
theorem scatter_place {α : Type} (i j : ℕ) (hj : j + 256 ≤ 1024) (x : S8x1024.Idx → α) (idx : IVec S2 32) (u : S256.Idx → α)
    (h0 : (idx (ix1 (0 : Fin 2))).toInt = i) (h1 : (idx (ix1 (1 : Fin 2))).toInt = j) :
    Host.scatter scatter_S8x1024_S2_S256_0_0_01_0 (fun _ b => b) x idx u = place i j u x := by
  funext p
  obtain ⟨r, q, rfl⟩ : ∃ (r : Fin 8) (q : Fin 1024), p = ix2 r q := ⟨p 0, p 1, by funext a; fin_cases a <;> rfl⟩
  have lands := fun k => lands_row idx k r q
  rw [h0, h1] at lands
  show _ = if r.val = i ∧ j ≤ q.val ∧ q.val < j + 256 then u (ix1 ⟨(q.val - j) % 256, _⟩) else x (ix2 r q)
  split
  · next h =>
    have small : (q.val - j) % 256 = q.val - j := Nat.mod_eq_of_lt (by omega)
    refine Routing.scatter_set_hit _ x idx u _ _ (fun k hk => ?_) (ix1 ⟨(q.val - j) % 256, Nat.mod_lt _ (by decide)⟩) ((lands _).2 ⟨by omega, ?_⟩)
    · have hq := ((lands k).1 hk).2
      refine congrArg u (funext fun a => ?_)
      fin_cases a
      refine Fin.ext ?_
      show (k 0).val = (q.val - j) % 256
      omega
    · show (j : Int) + (((q.val - j) % 256 : ℕ) : Int) = q.val
      omega
  · next h =>
    refine Routing.scatter_set_miss _ x idx u _ fun k hk => h ?_
    have hq := (lands k).1 hk
    have hk256 : (k 0).val < 256 := (k 0).isLt
    exact ⟨by omega, by omega, by omega⟩

/-- The two index words of a write, as the host puts them together from two scalar constants. -/
theorem scatter_words {α : Type} (i j : BitVec 32) (x : S8x1024.Idx → α) (u : S256.Idx → α) (hi : i.toInt = i.toNat) (hj : j.toInt = j.toNat)
    (hr : j.toNat + 256 ≤ 1024) :
    Host.scatter scatter_S8x1024_S2_S256_0_0_01_0 (fun _ b => b) x
        (concatenate S2 0 [⟨S1, broadcastInDim S1 ![] bcast_S_S1 (constantI S_ 32 i)⟩, ⟨S1, broadcastInDim S1 ![] bcast_S_S1 (constantI S_ 32 j)⟩]
          concatenates_S1_S1_S2_d0) u
      = place i.toNat j.toNat u x :=
  scatter_place _ _ hr x _ u hi hj

end Cert.KernelValue
-- ==== Proof.Literals.lean ====
/- The literals of both programs as real numbers, and finite sums of real numbers read over the extended reals. -/
module

public import Idealize.ShloMosaic.PureOps.Ideal

@[expose] public section

noncomputable section

namespace Cert.Lit

open Idealize.ShloMosaic

/-- The weight of a new sample: the 32-bit float nearest to 0.01. -/
def fresh : ℝ := 10737418 / 2 ^ 30
/-- The weight of the average so far: the 32-bit float nearest to 0.99. -/
def stay : ℝ := 16609444 / 2 ^ 24
/-- The stabilizer under the root: the 32-bit float nearest to 10⁻⁶. -/
def tiny : ℝ := 8796093 / 2 ^ 43

theorem fresh_nonneg : 0 ≤ fresh := by unfold fresh; norm_num
theorem stay_pos : 0 < stay := by unfold stay; norm_num
theorem tiny_pos : 0 < tiny := by unfold tiny; norm_num

theorem fresh_word : Ideal.ofBits .f32 0x3C23D70A#32 = ((fresh : ℝ) : EReal) := by
  unfold fresh
  simp [Ideal.ofBits, Ideal.ieee, -EReal.coe_mul]
  norm_num
theorem stay_word : Ideal.ofBits .f32 0x3F7D70A4#32 = ((stay : ℝ) : EReal) := by
  unfold stay
  simp [Ideal.ofBits, Ideal.ieee, -EReal.coe_mul]
  norm_num
theorem tiny_word : Ideal.ofBits .f32 0x358637BD#32 = ((tiny : ℝ) : EReal) := by
  unfold tiny
  simp [Ideal.ofBits, Ideal.ieee, -EReal.coe_mul]
  norm_num
theorem two_word : Ideal.ofBits .f32 0x40000000#32 = ((2 : ℝ) : EReal) := by
  simp [Ideal.ofBits, Ideal.ieee, -EReal.coe_mul]
  norm_num
theorem zero_word : Ideal.ofBits .f32 0x00000000#32 = (0 : EReal) := by
  simp [Ideal.ofBits, Ideal.ieee]
theorem inf_word : Ideal.ofBits .f32 0x7F800000#32 = (⊤ : EReal) := by
  simp [Ideal.ofBits, Ideal.ieee]

/-- A finite sum of reals, each read as an extended real, is the real sum read so. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

end Cert.Lit

end
-- ==== Proof.Payloads.lean ====
/- The kernel body's payloads at one element, over the extended reals: products as sums, slices and broadcasts as indices. -/
module

public import proofs.«01_k».proof.Proof.Gen.KernelIdeal.Skeleton
public import proofs.«01_k».proof.Proof.Literals
public import Idealize.ShloMosaic.Lib.Pointwise

@[expose] public section

set_option maxRecDepth 16384

noncomputable section

namespace Cert.KernelValue

open Cert.KernelIdeal Cert.KernelIdeal.Gen Idealize.ShloMosaic Idealize.ShloMosaic.TcCoe Idealize.SL.Sem
open Cert.Lit

variable (x0 x1 : Vec Ideal S8x1024 .f32) (x2 : Vec Ideal S512x512 .f32) (x3 : Vec Ideal S1x512 .f32) (x4 x5 : Vec Ideal S256x1 .f32)
  (x6 : Vec Ideal S4x256x512 .f32) (a b : Vec Ideal S4x1 .f32)
  (v20 : EReal) (v22 : FVec Ideal S1x512 .f32) (v30 v34 : FVec Ideal S4x512 .f32)

/-- The channel-weighting product: row `p` of the stacked weights against the block with its batches stacked. -/
theorem pay3_apply (p : Fin 8) (j : Fin 512) : k0_pay3 x6 x0 (ix2 p j)
    = ∑ k : Fin 1024, x0 (ix2 p k) * x6 (ix3 (⟨k.val / 256, by omega⟩ : Fin 4) (⟨k.val % 256, by omega⟩ : Fin 256) j) := by
  pointwise [k0_pay3, k0_pay2]

/-- The sum of the first row of the scale weights. -/
theorem pay4_apply : k0_pay4 (View.ld x1 (Rect.unit (s := S8x1024) ![0, 0] S1x1024.size inb_S8x1024_S1x1024_0_0)) = ∑ k : Fin 1024, x1 (ix2 (0 : Fin 8) k) := by
  pointwise [k0_pay4]
  simp

/-- The moving average of the shift: the triangular product of the weighted samples plus the decayed carry. -/
theorem pay6_apply (p : Fin 4) (j : Fin 512) : k0_pay6 x6 x0 x3 x2 a (ix2 p j)
    = (∑ i : Fin 512, k0_pay3 x6 x0 (ix2 (⟨p.val, by omega⟩ : Fin 8) i) * x2 (ix2 i j)) + a (ix2 p (0 : Fin 1)) * x3 (ix2 (0 : Fin 1) j) := by
  pointwise [k0_pay6, k0_pay5]

/-- The weighted second moment less twice the shift times the weighted first moment. -/
theorem pay7_apply (p : Fin 4) (j : Fin 512) : k0_pay7 x6 x0 x1 x3 x2 a (ix2 p j)
    = (∑ k : Fin 1024, x1 (ix2 (⟨p.val, by omega⟩ : Fin 8) k) * (x6 (ix3 (⟨k.val / 256, by omega⟩ : Fin 4) (⟨k.val % 256, by omega⟩ : Fin 256) j)
          * x6 (ix3 (⟨k.val / 256, by omega⟩ : Fin 4) (⟨k.val % 256, by omega⟩ : Fin 256) j)))
      - ((2 : ℝ) : EReal) * k0_pay6 x6 x0 x3 x2 a (ix2 p j) * k0_pay3 x6 x0 (ix2 (⟨4 + p.val, by omega⟩ : Fin 8) j) := by
  rw [← two_word]
  pointwise [k0_pay7, k0_pay2]

/-- The moving average of the scale: the triangular product of the weighted squares plus the decayed carry. -/
theorem pay8_apply (p : Fin 4) (j : Fin 512) : k0_pay8 v20 v22 v30 v34 x2 b (ix2 p j)
    = (∑ i : Fin 512, (v34 (ix2 p i) + v30 (ix2 p i) * v30 (ix2 p i) * v20) * x2 (ix2 i j)) + b (ix2 p (0 : Fin 1)) * v22 (ix2 (0 : Fin 1) j) := by
  pointwise [k0_pay8]

/-- The shift's carry: the last column. -/
theorem pay9_apply (p : Fin 4) : k0_pay9 v30 (ix2 p (0 : Fin 1)) = v30 (ix2 p (511 : Fin 512)) := by
  pointwise [k0_pay9]

/-- The scale's carry: the last column. -/
theorem pay10_apply (p : Fin 4) : k0_pay10 v20 v22 v30 v34 x2 b (ix2 p (0 : Fin 1)) = k0_pay8 v20 v22 v30 v34 x2 b (ix2 p (511 : Fin 512)) := by
  pointwise [k0_pay10]

/-- The decay row as it is. -/
theorem pay5_apply (j : Fin 512) : k0_pay5 x3 (ix2 (0 : Fin 1) j) = x3 (ix2 (0 : Fin 1) j) := by
  pointwise [k0_pay5]

/-- The zeroed carry. -/
theorem pay1_apply (i : Fin 8) (j : Fin 128) : (k0_pay1 (F := Ideal)) (ix2 i j) = (0 : EReal) := by
  pointwise [k0_pay1]

/-- The result: the centered sample over the root of the stabilized scale, projected. -/
theorem pay11_apply (p : Fin 4) (c : Fin 256) (j : Fin 512) : k0_pay11 x6 v20 v22 v30 v34 x2 b x4 x5 (ix3 p c j)
    = (x6 (ix3 p c j) - v30 (ix2 p j)) * Ideal.rsqrt (k0_pay8 v20 v22 v30 v34 x2 b (ix2 p j) + ((tiny : ℝ) : EReal)) * x4 (ix2 c (0 : Fin 1))
      + x5 (ix2 c (0 : Fin 1)) := by
  rw [← tiny_word]
  pointwise [k0_pay11]

end Cert.KernelValue

end
-- ==== Proof.Ema.lean ====
/- The exponential moving average as a recurrence, over any numbers that add and multiply, and its algebra over the reals:
   a block of it is one triangular product plus the decayed value before the block, it is linear, and it keeps sign. -/
module

public import Mathlib.Data.EReal.Operations
public import Mathlib.Algebra.BigOperators.Fin
public import Mathlib.Algebra.BigOperators.Ring.Finset
public import Mathlib.Algebra.Order.BigOperators.Group.Finset
public import Mathlib.Tactic.Ring

@[expose] public section

noncomputable section

namespace Cert.Ema

/-- The average after `n` samples of `x`: it starts at zero and each sample `a` makes `m * a + k * (the average before)`. -/
def ema {A : Type} [Add A] [Mul A] [Zero A] (m k : A) (x : ℕ → A) : ℕ → A
  | 0 => 0
  | n + 1 => m * x n + k * ema m k x n

/-- The average after `n` samples looks at the first `n` samples only. -/
theorem ema_congr {A : Type} [Add A] [Mul A] [Zero A] (m k : A) {x y : ℕ → A} :
    ∀ n : ℕ, (∀ t < n, x t = y t) → ema m k x n = ema m k y n
  | 0, _ => rfl
  | n + 1, h => by
    show m * x n + k * ema m k x n = m * y n + k * ema m k y n
    rw [h n (Nat.lt_succ_self n), ema_congr m k n fun t ht => h t (Nat.lt_succ_of_lt ht)]

/-- Over the extended reals the average of finite samples is the real average. -/
theorem ema_coe (m k : ℝ) (x : ℕ → ℝ) : ∀ n : ℕ, ema (m : EReal) (k : EReal) (fun t => (x t : EReal)) n = ((ema m k x n : ℝ) : EReal)
  | 0 => rfl
  | n + 1 => by
    show (m : EReal) * (x n : EReal) + (k : EReal) * ema (m : EReal) (k : EReal) (fun t => (x t : EReal)) n = ((m * x n + k * ema m k x n : ℝ) : EReal)
    rw [ema_coe m k x n, EReal.coe_add, EReal.coe_mul, EReal.coe_mul]

/-- The average is linear in the samples: of a weighted sum it is the weighted sum of the averages. -/
theorem ema_sum {ι : Type} (s : Finset ι) (m k : ℝ) (w : ι → ℝ) (x : ι → ℕ → ℝ) :
    ∀ n : ℕ, ema m k (fun t => ∑ c ∈ s, w c * x c t) n = ∑ c ∈ s, w c * ema m k (x c) n
  | 0 => by simp [ema]
  | n + 1 => by
    show m * (∑ c ∈ s, w c * x c n) + k * ema m k (fun t => ∑ c ∈ s, w c * x c t) n = ∑ c ∈ s, w c * (m * x c n + k * ema m k (x c) n)
    rw [ema_sum s m k w x n, Finset.mul_sum, Finset.mul_sum, ← Finset.sum_add_distrib]
    exact Finset.sum_congr rfl fun c _ => by ring

/-- With nonnegative coefficients the average of nonnegative samples is nonnegative. -/
theorem ema_nonneg {m k : ℝ} (hm : 0 ≤ m) (hk : 0 ≤ k) {x : ℕ → ℝ} (hx : ∀ t, 0 ≤ x t) : ∀ n : ℕ, 0 ≤ ema m k x n
  | 0 => le_refl _
  | n + 1 => add_nonneg (mul_nonneg hm (hx n)) (mul_nonneg hk (ema_nonneg hm hk hx n))

/-- The average `j + 1` samples further on, from the average at `n` and the samples between. -/
theorem ema_add (m k : ℝ) (x : ℕ → ℝ) (n : ℕ) :
    ∀ j : ℕ, (∑ i ∈ Finset.range (j + 1), x (n + i) * (m * k ^ (j - i))) + ema m k x n * k ^ (j + 1) = ema m k x (n + j + 1)
  | 0 => by
    show _ = m * x (n + 0) + k * ema m k x (n + 0)
    simp; ring
  | j + 1 => by
    show _ = m * x (n + (j + 1)) + k * ema m k x (n + j + 1)
    rw [← ema_add m k x n j, Finset.sum_range_succ, mul_add, Finset.mul_sum,
      Finset.sum_congr rfl (fun i hi => show x (n + i) * (m * k ^ (j + 1 - i)) = k * (x (n + i) * (m * k ^ (j - i))) by
        rw [Nat.succ_sub (Nat.lt_succ_iff.mp (Finset.mem_range.mp hi)), pow_succ]; ring)]
    simp; ring

/-- A block of `N` samples from `n` on: the triangular product `∑ᵢ x (n + i) · (i ≤ j ? m k^(j-i) : 0)` plus the decayed
    average before the block is the average at the block's place `j`. -/
theorem ema_block (m k : ℝ) (x : ℕ → ℝ) (n N : ℕ) (j : Fin N) :
    (∑ i : Fin N, x (n + i) * (if i ≤ j then m * k ^ (j.val - i.val) else 0)) + ema m k x n * k ^ (j.val + 1) = ema m k x (n + j + 1) := by
  rw [← ema_add m k x n j]
  congr 1
  have h1 : ∀ i : Fin N, x (n + i) * (if i ≤ j then m * k ^ (j.val - i.val) else 0)
      = (fun i : ℕ => if i ≤ j.val then x (n + i) * (m * k ^ (j.val - i)) else 0) i.val := fun i => by
    by_cases h : i ≤ j
    · simp [h, Fin.le_def.mp h]
    · simp [h, show ¬ i.val ≤ j.val from h]
  rw [Finset.sum_congr rfl fun i _ => h1 i,
    Fin.sum_univ_eq_sum_range (fun i : ℕ => if i ≤ j.val then x (n + i) * (m * k ^ (j.val - i)) else 0) N, ← Finset.sum_filter]
  refine Finset.sum_congr (Finset.ext fun i => ?_) fun _ _ => rfl
  have := j.isLt
  simp only [Finset.mem_filter, Finset.mem_range]
  omega

end Cert.Ema

end
-- ==== Proof.Model.lean ====
/- The quantities both programs compute, over the reals: the moving average of the weighted samples (the shift), and the moving
   average of the weighted squared distances to it (the scale). -/
module

public import proofs.«01_k».proof.Proof.Ema
public import proofs.«01_k».proof.Proof.Literals

@[expose] public section

noncomputable section

namespace Cert.Model

open Cert.Ema Cert.Lit

variable (w e : Fin 256 → ℝ) (x : Fin 256 → ℕ → ℝ)

/-- One batch's weighted sample at a time. -/
def mix (t : ℕ) : ℝ := ∑ c, w c * x c t
/-- The shift at a time: the moving average of the weighted samples up to and with it. -/
def shift (t : ℕ) : ℝ := ema fresh stay (mix w x) (t + 1)
/-- The weighted squared distance to the shift at a time. -/
def spread (t : ℕ) : ℝ := ∑ c, e c * ((x c t - shift w x t) * (x c t - shift w x t))
/-- The scale at a time: the moving average of the weighted squared distances up to and with it. -/
def scale (t : ℕ) : ℝ := ema fresh stay (spread w e x) (t + 1)

/-- With nonnegative weights the scale is nonnegative. -/
theorem scale_nonneg (he : ∀ c, 0 ≤ e c) (t : ℕ) : 0 ≤ scale w e x t :=
  ema_nonneg fresh_nonneg stay_pos.le (fun t => Finset.sum_nonneg fun c _ => mul_nonneg (he c) (mul_self_nonneg _)) (t + 1)

/-- The squared distance expanded: second moment, less twice the shift times the first, plus the squared shift times the weights' sum. -/
theorem spread_expand (t : ℕ) : spread w e x t
    = ((∑ c, e c * (x c t * x c t)) - 2 * shift w x t * ∑ c, e c * x c t) + shift w x t * shift w x t * ∑ c, e c := by
  unfold spread
  rw [Finset.mul_sum, Finset.mul_sum, ← Finset.sum_sub_distrib, ← Finset.sum_add_distrib]
  exact Finset.sum_congr rfl fun c _ => by ring

/-- The shift is the weighted sum of the channels' moving averages. -/
theorem shift_eq (t : ℕ) : shift w x t = ∑ c, w c * ema fresh stay (x c) (t + 1) :=
  ema_sum Finset.univ fresh stay w x (t + 1)

/-- The scale is the weighted sum of the moving averages of the squared distances. -/
theorem scale_eq (t : ℕ) : scale w e x t
    = ∑ c, e c * ema fresh stay (fun t => (x c t - shift w x t) * (x c t - shift w x t)) (t + 1) :=
  ema_sum Finset.univ fresh stay e (fun c t => (x c t - shift w x t) * (x c t - shift w x t)) (t + 1)

/-- A row of weights placed in batch `r`'s channels picks that batch's channels out of the stacked sum. -/
theorem sum_stacked (r : Fin 4) (f : Fin 4 → Fin 256 → ℝ) :
    ∑ k : Fin 1024, (if k.val / 256 = r.val then w ⟨k.val % 256, by omega⟩ else 0) * f ⟨k.val / 256, by omega⟩ ⟨k.val % 256, by omega⟩
      = ∑ c, w c * f r c := by
  rw [← (finProdFinEquiv : Fin 4 × Fin 256 ≃ Fin (4 * 256)).sum_comp, Fintype.sum_prod_type, Finset.sum_eq_single r]
  · refine Finset.sum_congr rfl fun c _ => ?_
    have h1 : ((finProdFinEquiv (r, c) : Fin (4 * 256)) : ℕ) / 256 = r.val := by
      rw [finProdFinEquiv_apply_val]; have := c.isLt; dsimp only; omega
    have h2 : ((finProdFinEquiv (r, c) : Fin (4 * 256)) : ℕ) % 256 = c.val := by
      rw [finProdFinEquiv_apply_val]; have := c.isLt; dsimp only; omega
    rw [if_pos h1]
    exact congrArg₂ (· * ·) (congrArg w (Fin.ext h2)) (congrArg₂ f (Fin.ext h1) (Fin.ext h2))
  · intro q _ hq
    refine Finset.sum_eq_zero fun c _ => ?_
    have h1 : ((finProdFinEquiv (q, c) : Fin (4 * 256)) : ℕ) / 256 = q.val := by
      rw [finProdFinEquiv_apply_val]; have := c.isLt; dsimp only; omega
    rw [if_neg (fun h => hq (Fin.ext (h1.symm.trans h))), zero_mul]
  · exact fun h => absurd (Finset.mem_univ r) h

/-- The sum of such a row is the sum of the weights. -/
theorem sum_row (r : Fin 4) : ∑ k : Fin 1024, (if k.val / 256 = r.val then w ⟨k.val % 256, by omega⟩ else 0) = ∑ c, w c := by
  have h := sum_stacked w r fun _ _ => 1
  simpa only [mul_one] using h

end Cert.Model

end
-- ==== Proof.PointReal.lean ====
/- One grid point of the kernel over finite inputs: from the averages before the point's block of times, the body computes the shift and
   the scale at every time of the block, and so its result. -/
module

public import proofs.«01_k».proof.Proof.Payloads
public import proofs.«01_k».proof.Proof.Model

@[expose] public section

noncomputable section

namespace Cert.KernelValue

open Cert.KernelIdeal Cert.KernelIdeal.Gen Idealize.ShloMosaic Idealize.ShloMosaic.TcCoe Idealize.SL.Sem
open Cert.Lit Cert.Ema Cert.Model

/-- The operands every point reads whole, over the weights: the shift weights and the scale weights stacked per batch, the triangular
    products' coefficients and the decays. -/
structure Tables (w e : Fin 256 → ℝ) (x0 x1 : Vec Ideal S8x1024 .f32) (x2 : Vec Ideal S512x512 .f32) (x3 : Vec Ideal S1x512 .f32) : Prop where
  shiftRow : ∀ (r : Fin 4) (k : Fin 1024), x0 (ix2 (⟨r.val, by omega⟩ : Fin 8) k)
    = (((if k.val / 256 = r.val then w ⟨k.val % 256, by omega⟩ else 0 : ℝ)) : EReal)
  scaleRow : ∀ (r : Fin 4) (k : Fin 1024), x0 (ix2 (⟨4 + r.val, by omega⟩ : Fin 8) k)
    = (((if k.val / 256 = r.val then e ⟨k.val % 256, by omega⟩ else 0 : ℝ)) : EReal)
  squareRow : ∀ (r : Fin 4) (k : Fin 1024), x1 (ix2 (⟨r.val, by omega⟩ : Fin 8) k)
    = (((if k.val / 256 = r.val then e ⟨k.val % 256, by omega⟩ else 0 : ℝ)) : EReal)
  triangle : ∀ i j : Fin 512, x2 (ix2 i j) = (((if i ≤ j then fresh * stay ^ (j.val - i.val) else 0 : ℝ)) : EReal)
  decay : ∀ j : Fin 512, x3 (ix2 (0 : Fin 1) j) = ((stay ^ (j.val + 1) : ℝ) : EReal)

section
variable {w e : Fin 256 → ℝ} {x0 x1 : Vec Ideal S8x1024 .f32} {x2 : Vec Ideal S512x512 .f32} {x3 : Vec Ideal S1x512 .f32}
  (T : Tables w e x0 x1 x2 x3) (x6 : Vec Ideal S4x256x512 .f32) (x : Fin 4 → Fin 256 → ℕ → ℝ) (n : ℕ)
  (h6 : ∀ (r : Fin 4) (c : Fin 256) (j : Fin 512), x6 (ix3 r c j) = ((x r c (n + j.val) : ℝ) : EReal))
  (a b : Vec Ideal S4x1 .f32)
  (ha : ∀ r : Fin 4, a (ix2 r (0 : Fin 1)) = ((ema fresh stay (mix w (x r)) n : ℝ) : EReal))
  (hb : ∀ r : Fin 4, b (ix2 r (0 : Fin 1)) = ((ema fresh stay (spread w e (x r)) n : ℝ) : EReal))
include T h6

/-- The weighted samples of the block. -/
theorem mix_value (r : Fin 4) (j : Fin 512) : k0_pay3 x6 x0 (ix2 (⟨r.val, by omega⟩ : Fin 8) j) = ((mix w (x r) (n + j.val) : ℝ) : EReal) := by
  rw [pay3_apply, mix, ← sum_stacked w r fun r c => x r c (n + j.val), ← coe_sum]
  exact Finset.sum_congr rfl fun k _ => by rw [T.shiftRow, h6, EReal.coe_mul]

/-- The scale-weighted first moment of the block. -/
theorem first_value (r : Fin 4) (j : Fin 512) : k0_pay3 x6 x0 (ix2 (⟨4 + r.val, by omega⟩ : Fin 8) j) = ((∑ c, e c * x r c (n + j.val) : ℝ) : EReal) := by
  rw [pay3_apply, ← sum_stacked e r fun r c => x r c (n + j.val), ← coe_sum]
  exact Finset.sum_congr rfl fun k _ => by rw [T.scaleRow, h6, EReal.coe_mul]

include ha
/-- The shift at every time of the block. -/
theorem shift_value (r : Fin 4) (j : Fin 512) : k0_pay6 x6 x0 x3 x2 a (ix2 r j) = ((shift w (x r) (n + j.val) : ℝ) : EReal) := by
  rw [pay6_apply, ha, T.decay, shift, ← ema_block fresh stay (mix w (x r)) n 512 j, EReal.coe_add, ← coe_sum, EReal.coe_mul]
  exact congrArg (· + _) (Finset.sum_congr rfl fun i _ => by rw [mix_value T x6 x n h6, T.triangle, EReal.coe_mul])

/-- The weighted squared distance at every time of the block, as the body expands it. -/
theorem spread_value (r : Fin 4) (j : Fin 512) :
    k0_pay7 x6 x0 x1 x3 x2 a (ix2 r j) + k0_pay6 x6 x0 x3 x2 a (ix2 r j) * k0_pay6 x6 x0 x3 x2 a (ix2 r j) * k0_pay4 (View.ld x1 (Rect.unit (s := S8x1024) ![0, 0] S1x1024.size inb_S8x1024_S1x1024_0_0))
      = ((spread w e (x r) (n + j.val) : ℝ) : EReal) := by
  have h2 : (∑ k : Fin 1024, x1 (ix2 (⟨r.val, by omega⟩ : Fin 8) k) * (x6 (ix3 (⟨k.val / 256, by omega⟩ : Fin 4) (⟨k.val % 256, by omega⟩ : Fin 256) j)
          * x6 (ix3 (⟨k.val / 256, by omega⟩ : Fin 4) (⟨k.val % 256, by omega⟩ : Fin 256) j))) = ((∑ c, e c * (x r c (n + j.val) * x r c (n + j.val)) : ℝ) : EReal) := by
    rw [← sum_stacked e r fun r c => x r c (n + j.val) * x r c (n + j.val), ← coe_sum]
    exact Finset.sum_congr rfl fun k _ => by rw [T.squareRow, h6, EReal.coe_mul, EReal.coe_mul]
  have h4 : k0_pay4 (View.ld x1 (Rect.unit (s := S8x1024) ![0, 0] S1x1024.size inb_S8x1024_S1x1024_0_0)) = ((∑ c, e c : ℝ) : EReal) := by
    rw [pay4_apply, ← sum_row e 0, ← coe_sum]
    exact Finset.sum_congr rfl fun k _ => T.squareRow 0 k
  rw [pay7_apply, h2, h4, shift_value T x6 x n h6 a ha, first_value T x6 x n h6, spread_expand]
  push_cast
  rfl

include hb
/-- The scale at every time of the block. -/
theorem scale_value (r : Fin 4) (j : Fin 512) :
    k0_pay8 (k0_pay4 (View.ld x1 (Rect.unit (s := S8x1024) ![0, 0] S1x1024.size inb_S8x1024_S1x1024_0_0))) (k0_pay5 x3) (k0_pay6 x6 x0 x3 x2 a) (k0_pay7 x6 x0 x1 x3 x2 a) x2 b (ix2 r j)
      = ((scale w e (x r) (n + j.val) : ℝ) : EReal) := by
  rw [pay8_apply, hb, pay5_apply, T.decay, scale, ← ema_block fresh stay (spread w e (x r)) n 512 j, EReal.coe_add, ← coe_sum, EReal.coe_mul]
  exact congrArg (· + _) (Finset.sum_congr rfl fun i _ => by rw [spread_value T x6 x n h6 a ha, T.triangle, EReal.coe_mul])

/-- The point's result, element by element. -/
theorem out_value (x4 x5 : Vec Ideal S256x1 .f32) (r : Fin 4) (c : Fin 256) (j : Fin 512) :
    k0_pay11 x6 (k0_pay4 (View.ld x1 (Rect.unit (s := S8x1024) ![0, 0] S1x1024.size inb_S8x1024_S1x1024_0_0))) (k0_pay5 x3) (k0_pay6 x6 x0 x3 x2 a) (k0_pay7 x6 x0 x1 x3 x2 a) x2 b x4 x5 (ix3 r c j)
      = ((x r c (n + j.val) - shift w (x r) (n + j.val) : ℝ) : EReal) * Ideal.rsqrt ((scale w e (x r) (n + j.val) + tiny : ℝ) : EReal) * x4 (ix2 c (0 : Fin 1)) + x5 (ix2 c (0 : Fin 1)) := by
  rw [pay11_apply, scale_value T x6 x n h6 a b ha hb, shift_value T x6 x n h6 a ha, h6, EReal.coe_sub, EReal.coe_add]

/-- The shift's carry after the point. -/
theorem carry_shift (r : Fin 4) : k0_pay9 (k0_pay6 x6 x0 x3 x2 a) (ix2 r (0 : Fin 1)) = ((ema fresh stay (mix w (x r)) (n + 512) : ℝ) : EReal) := by
  rw [pay9_apply, shift_value T x6 x n h6 a ha]
  rfl

/-- The scale's carry after the point. -/
theorem carry_scale (r : Fin 4) :
    k0_pay10 (k0_pay4 (View.ld x1 (Rect.unit (s := S8x1024) ![0, 0] S1x1024.size inb_S8x1024_S1x1024_0_0))) (k0_pay5 x3) (k0_pay6 x6 x0 x3 x2 a) (k0_pay7 x6 x0 x1 x3 x2 a) x2 b (ix2 r (0 : Fin 1))
      = ((ema fresh stay (spread w e (x r)) (n + 512) : ℝ) : EReal) := by
  rw [pay10_apply, scale_value T x6 x n h6 a b ha hb]
  rfl
end

end Cert.KernelValue

end
-- ==== Proof.HostArrays.lean ====
module

public import proofs.«01_k».proof.Proof.HostRows
public import proofs.«01_k».proof.Proof.PointReal
public import Idealize.ShloMosaic.Lib.WordCmp

/-! The arrays that the host hands to the kernel, as terms over its arguments. -/

@[expose] public section

set_option maxRecDepth 16384

noncomputable section

namespace Cert.KernelValue

open Idealize.ShloMosaic Idealize.ShloMosaic.TcCoe Idealize.SL.Sem Idealize.ShloMosaic.StableHlo
open Cert.KernelIdeal Cert.KernelIdeal.Gen

/-- The table of zeros that the writes start from. -/
def blank : FVec Ideal S8x1024 .f32 := broadcastInDim S8x1024 ![] bcast_S_S8x1024 (constant S_ .f32 0x00000000#32)

/-- The table stacked of the shift weights `w` (rows 0 to 3) and the scale weights `e` (rows 4 to 7), row `r` and row
`4 + r` holding them at the columns of batch `r`. -/
def stacked (w e : FVec Ideal S256 .f32) : FVec Ideal S8x1024 .f32 :=
  place 7 768 e (place 3 768 w (place 6 512 e (place 2 512 w (place 5 256 e (place 1 256 w (place 4 0 e (place 0 0 w blank)))))))

/-- The table of the scale weights `e` alone, row `r` holding them at the columns of batch `r`. -/
def scales (e : FVec Ideal S256 .f32) : FVec Ideal S8x1024 .f32 := place 3 768 e (place 2 512 e (place 1 256 e (place 0 0 e blank)))

/-- The difference of two positions, as the word that the subtraction gives. -/
theorem difference (i j : Fin 512) : (IntOp.subi (BitVec.ofNat 32 j.val) (BitVec.ofNat 32 i.val)).toInt = (j.val : Int) - i.val := by
  have hi := i.isLt
  have hj := j.isLt
  show (BitVec.ofNat 32 j.val - BitVec.ofNat 32 i.val).toInt = _
  rw [BitVec.toInt_sub, WordCmp.toInt_ofNat_of_lt (by omega), WordCmp.toInt_ofNat_of_lt (by omega)]
  exact Int.bmod_eq_of_le (by omega) (by omega)

/-- The kept part to the power of a word holding `n`. -/
theorem power (b : BitVec 32) (n : ℕ) (h : b.toInt = n) :
    Ideal.pow (Ideal.ofBits FTy.f32 0x3F7D70A4#32) (FloatOps.sitofp (F := Ideal) FTy.f32 b) = ((Lit.stay ^ n : ℝ) : EReal) := by
  rw [Lit.stay_word]
  have : (FloatOps.sitofp (F := Ideal) FTy.f32 b : EReal) = ((n : ℝ) : EReal) := by
    show (((b.toInt : ℝ)) : EReal) = _
    rw [h]
    simp
  refine (congrArg _ this).trans ?_
  rw [Ideal.pow_coe_coe]
  exact congrArg _ (Real.rpow_natCast _ _)

section
variable (m : (ℓ : Loc nD τ sig) → Buf (Elt Ideal) ℓ) (c : Dev nD)

set_option maxHeartbeats 4000000 in
/-- The first table is the stacked one, of the shift weights and the exponentials of the log scale weights. -/
theorem V_stacked : V m c main_v46 = stacked (m (c, Proc.tc.devRef main_arg1)) (Host.exp (m (c, Proc.tc.devRef main_arg2)) : FVec Ideal S256 .f32) := by
  unfold V
  simp only [hostOps0, hostOps0_1, hostOps0_2, List.flatten_cons, List.flatten_nil, List.cons_append, List.append_nil, List.nil_append]
  after_results
  unfold stacked blank
  iterate 8 rw [scatter_words _ _ _ _ (by decide) (by decide) (by decide)]
  rfl

set_option maxHeartbeats 4000000 in
/-- The second table is that of the scale weights. -/
theorem V_scales : V m c main_v50 = scales (Host.exp (m (c, Proc.tc.devRef main_arg2)) : FVec Ideal S256 .f32) := by
  unfold V
  simp only [hostOps0, hostOps0_1, hostOps0_2, List.flatten_cons, List.flatten_nil, List.cons_append, List.append_nil, List.nil_append]
  after_results
  unfold scales blank
  iterate 4 rw [scatter_words _ _ _ _ (by decide) (by decide) (by decide)]
  rfl

set_option maxHeartbeats 4000000 in
/-- The triangle. -/
theorem V_triangle (i j : Fin 512) : V m c main_v65 (ix2 i j) = ((if i ≤ j then Lit.fresh * Lit.stay ^ (j.val - i.val) else 0 : ℝ) : EReal) := by
  unfold V
  simp only [hostOps0, hostOps0_1, hostOps0_2, List.flatten_cons, List.flatten_nil, List.cons_append, List.append_nil, List.nil_append]
  after_results
  simp only [TRef.toBuf, TRef.ofBuf, cast_eq, id]
  pointwise
  have word := difference i j
  by_cases h : i ≤ j
  · have hv : i.val ≤ j.val := h
    have le : IntOp.cmpi CmpIPredicate.sge (IntOp.subi (BitVec.ofNat 32 j.val) (BitVec.ofNat 32 i.val)) 0#32 = 1#1 := by
      rw [WordCmp.cmpi_sge_eq, word, decide_eq_true (by simpa using hv)]
      rfl
    rw [le, power _ (j.val - i.val) (by rw [word]; omega), Lit.fresh_word, if_pos h, EReal.coe_mul]
    rfl
  · have hv : j.val < i.val := not_le.1 h
    have le : IntOp.cmpi CmpIPredicate.sge (IntOp.subi (BitVec.ofNat 32 j.val) (BitVec.ofNat 32 i.val)) 0#32 = 0#1 := by
      rw [WordCmp.cmpi_sge_eq, word, decide_eq_false (by simpa using hv)]
      rfl
    rw [le, if_neg h]
    rfl

set_option maxHeartbeats 4000000 in
/-- The decay. -/
theorem V_decay (j : Fin 512) : V m c main_v72 (ix2 0 j) = ((Lit.stay ^ (j.val + 1) : ℝ) : EReal) := by
  unfold V
  simp only [hostOps0, hostOps0_1, hostOps0_2, List.flatten_cons, List.flatten_nil, List.cons_append, List.append_nil, List.nil_append]
  after_results
  pointwise
  refine power _ (j.val + 1) ?_
  show (BitVec.ofNat 32 j.val + BitVec.ofNat 32 1).toInt = _
  rw [← BitVec.ofNat_add, WordCmp.toInt_ofNat_of_lt (by omega)]
set_option maxHeartbeats 4000000 in
/-- The projection weights, as a column. -/
theorem V_weights (k : Fin 256) : V m c main_v73 (ix2 k 0) = m (c, Proc.tc.devRef main_arg3) (ix1 k) := by
  unfold V
  simp only [hostOps0, hostOps0_1, hostOps0_2, List.flatten_cons, List.flatten_nil, List.cons_append, List.append_nil, List.nil_append]
  after_results
  pointwise

set_option maxHeartbeats 4000000 in
/-- The projection bias, as a column. -/
theorem V_bias (k : Fin 256) : V m c main_v74 (ix2 k 0) = m (c, Proc.tc.devRef main_arg4) (ix1 k) := by
  unfold V
  simp only [hostOps0, hostOps0_1, hostOps0_2, List.flatten_cons, List.flatten_nil, List.cons_append, List.append_nil, List.nil_append]
  after_results
  pointwise

end

/-- One write read at row `r` and column `q`. -/
theorem place_apply (i j : ℕ) (u : FVec Ideal S256 .f32) (x : FVec Ideal S8x1024 .f32) (r : Fin 8) (q : Fin 1024) :
    place i j u x (ix2 r q) = if r.val = i ∧ j ≤ q.val ∧ q.val < j + 256 then u (ix1 ⟨(q.val - j) % 256, Nat.mod_lt _ (by decide)⟩) else x (ix2 r q) := rfl

/-- The blank table holds zero. -/
theorem blank_apply (r : Fin 8) (q : Fin 1024) : blank (ix2 r q) = 0 := by
  pointwise [blank]

/-- A table of reals read at two numbers that are the same. -/
theorem at_same (f : Fin 256 → ℝ) {a b : ℕ} {ha : a < 256} {hb : b < 256} (h : a = b) : (f ⟨a, ha⟩ : EReal) = (f ⟨b, hb⟩ : EReal) := by
  subst h
  rfl

/-- Row `r` of the first half of the stacked table. -/
theorem stacked_shift (w e : FVec Ideal S256 .f32) (wr : Fin 256 → ℝ) (hw : ∀ k, w (ix1 k) = (wr k : EReal)) (r : Fin 4) (k : Fin 1024) :
    stacked w e (ix2 (⟨r.val, by omega⟩ : Fin 8) k) = ((if k.val / 256 = r.val then wr ⟨k.val % 256, by omega⟩ else 0 : ℝ) : EReal) := by
  have hk := k.isLt
  unfold stacked
  simp only [place_apply, blank_apply, hw]
  fin_cases r <;> simp <;> split_ifs <;> first | rfl | omega | exact at_same _ (by omega)

/-- Row `r` of the second half of the stacked table. -/
theorem stacked_scale (w e : FVec Ideal S256 .f32) (er : Fin 256 → ℝ) (he : ∀ k, e (ix1 k) = (er k : EReal)) (r : Fin 4) (k : Fin 1024) :
    stacked w e (ix2 (⟨4 + r.val, by omega⟩ : Fin 8) k) = ((if k.val / 256 = r.val then er ⟨k.val % 256, by omega⟩ else 0 : ℝ) : EReal) := by
  have hk := k.isLt
  unfold stacked
  simp only [place_apply, blank_apply, he]
  fin_cases r <;> simp <;> split_ifs <;> first | rfl | omega | exact at_same _ (by omega)

/-- Row `r` of the table of scale weights. -/
theorem scales_apply (e : FVec Ideal S256 .f32) (er : Fin 256 → ℝ) (he : ∀ k, e (ix1 k) = (er k : EReal)) (r : Fin 4) (k : Fin 1024) :
    scales e (ix2 (⟨r.val, by omega⟩ : Fin 8) k) = ((if k.val / 256 = r.val then er ⟨k.val % 256, by omega⟩ else 0 : ℝ) : EReal) := by
  have hk := k.isLt
  unfold scales
  simp only [place_apply, blank_apply, he]
  fin_cases r <;> simp <;> split_ifs <;> first | rfl | omega | exact at_same _ (by omega)

end Cert.KernelValue
-- ==== Proof.Blocks.lean ====
module

public import proofs.«01_k».proof.Proof.HostArrays

/-! What each grid point finds in its input windows, over the arguments. -/

@[expose] public section

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Window 0 is the first table whole. -/
theorem iblk0 (p : Fin 8) (q : Fin 1024) : iblk m c 0 t (ix2 p q) = V m c main_v46 (ix2 p q) := by
  have h : ∀ t : Fin cfg0.N, win0_0.index t (0 : Fin 2) = 0 ∧ win0_0.index t (1 : Fin 2) = 0 := (by decide +kernel : ∀ t : Fin grid0.N, _)
  refine congrArg (V m c main_v46) (funext fun a => ?_)
  fin_cases a
  · refine Fin.ext ?_
    show win0_0.index t (0 : Fin 2) * 8 + 1 * p.val = p.val
    rw [(h t).1]; omega
  · refine Fin.ext ?_
    show win0_0.index t (1 : Fin 2) * 1024 + 1 * q.val = q.val
    rw [(h t).2]; omega

/-- Window 1 is the table of scale weights whole. -/
theorem iblk1 (p : Fin 8) (q : Fin 1024) : iblk m c 1 t (ix2 p q) = V m c main_v50 (ix2 p q) := by
  have h : ∀ t : Fin cfg0.N, win0_1.index t (0 : Fin 2) = 0 ∧ win0_1.index t (1 : Fin 2) = 0 := (by decide +kernel : ∀ t : Fin grid0.N, _)
  refine congrArg (V m c main_v50) (funext fun a => ?_)
  fin_cases a
  · refine Fin.ext ?_
    show win0_1.index t (0 : Fin 2) * 8 + 1 * p.val = p.val
    rw [(h t).1]; omega
  · refine Fin.ext ?_
    show win0_1.index t (1 : Fin 2) * 1024 + 1 * q.val = q.val
    rw [(h t).2]; omega

/-- Window 2 is the triangle whole. -/
theorem iblk2 (p : Fin 512) (q : Fin 512) : iblk m c 2 t (ix2 p q) = V m c main_v65 (ix2 p q) := by
  have h : ∀ t : Fin cfg0.N, win0_2.index t (0 : Fin 2) = 0 ∧ win0_2.index t (1 : Fin 2) = 0 := (by decide +kernel : ∀ t : Fin grid0.N, _)
  refine congrArg (V m c main_v65) (funext fun a => ?_)
  fin_cases a
  · refine Fin.ext ?_
    show win0_2.index t (0 : Fin 2) * 512 + 1 * p.val = p.val
    rw [(h t).1]; omega
  · refine Fin.ext ?_
    show win0_2.index t (1 : Fin 2) * 512 + 1 * q.val = q.val
    rw [(h t).2]; omega

/-- Window 3 is the row of decays whole. -/
theorem iblk3 (q : Fin 512) : iblk m c 3 t (ix2 (0 : Fin 1) q) = V m c main_v72 (ix2 (0 : Fin 1) q) := by
  have h : ∀ t : Fin cfg0.N, win0_3.index t (0 : Fin 2) = 0 ∧ win0_3.index t (1 : Fin 2) = 0 := (by decide +kernel : ∀ t : Fin grid0.N, _)
  refine congrArg (V m c main_v72) (funext fun a => ?_)
  fin_cases a
  · refine Fin.ext ?_
    show win0_3.index t (0 : Fin 2) * 1 + 1 * 0 = 0
    rw [(h t).1]
  · refine Fin.ext ?_
    show win0_3.index t (1 : Fin 2) * 512 + 1 * q.val = q.val
    rw [(h t).2]; omega

/-- Window 4 is the column of projection weights whole. -/
theorem iblk4 (p : Fin 256) : iblk m c 4 t (ix2 p (0 : Fin 1)) = V m c main_v73 (ix2 p (0 : Fin 1)) := by
  have h : ∀ t : Fin cfg0.N, win0_4.index t (0 : Fin 2) = 0 ∧ win0_4.index t (1 : Fin 2) = 0 := (by decide +kernel : ∀ t : Fin grid0.N, _)
  refine congrArg (V m c main_v73) (funext fun a => ?_)
  fin_cases a
  · refine Fin.ext ?_
    show win0_4.index t (0 : Fin 2) * 256 + 1 * p.val = p.val
    rw [(h t).1]; omega
  · refine Fin.ext ?_
    show win0_4.index t (1 : Fin 2) * 1 + 1 * 0 = 0
    rw [(h t).2]

/-- Window 5 is the column of projection biases whole. -/
theorem iblk5 (p : Fin 256) : iblk m c 5 t (ix2 p (0 : Fin 1)) = V m c main_v74 (ix2 p (0 : Fin 1)) := by
  have h : ∀ t : Fin cfg0.N, win0_5.index t (0 : Fin 2) = 0 ∧ win0_5.index t (1 : Fin 2) = 0 := (by decide +kernel : ∀ t : Fin grid0.N, _)
  refine congrArg (V m c main_v74) (funext fun a => ?_)
  fin_cases a
  · refine Fin.ext ?_
    show win0_5.index t (0 : Fin 2) * 256 + 1 * p.val = p.val
    rw [(h t).1]; omega
  · refine Fin.ext ?_
    show win0_5.index t (1 : Fin 2) * 1 + 1 * 0 = 0
    rw [(h t).2]

/-- A batch of the group that point `t` works on, four batches to a group. -/
def batch (t : Fin cfg0.N) (r : Fin 4) : Fin 8 := ⟨4 * (t.val / 32) + r.val, by have h : t.val < 64 := lt_of_lt_of_eq t.isLt N_0; omega⟩

/-- A time of the stretch that point `t` works on, 512 times to a stretch. -/
def time (t : Fin cfg0.N) (j : Fin 512) : Fin 16384 := ⟨512 * (t.val % 32) + j.val, by omega⟩

/-- Window 6 is a block of the samples: four batches, all channels, 512 times. -/
theorem iblk6 (r : Fin 4) (k : Fin 256) (j : Fin 512) : iblk m c 6 t (ix3 r k j) = m (c, Proc.tc.devRef main_arg0) (ix3 (batch t r) k (time t j)) := by
  have h : ∀ t : Fin cfg0.N, win0_6.index t (0 : Fin 3) = t.val / 32 ∧ win0_6.index t (1 : Fin 3) = 0 ∧ win0_6.index t (2 : Fin 3) = t.val % 32 :=
    (by decide +kernel : ∀ t : Fin grid0.N, _)
  refine Eq.trans ?_ (congrFun (V_main_arg0 m c) _)
  refine congrArg (V m c main_arg0) (funext fun a => ?_)
  fin_cases a
  · refine Fin.ext ?_
    show win0_6.index t (0 : Fin 3) * 4 + 1 * r.val = 4 * (t.val / 32) + r.val
    rw [(h t).1]; omega
  · refine Fin.ext ?_
    show win0_6.index t (1 : Fin 3) * 256 + 1 * k.val = k.val
    rw [(h t).2.1]; omega
  · refine Fin.ext ?_
    show win0_6.index t (2 : Fin 3) * 512 + 1 * j.val = 512 * (t.val % 32) + j.val
    rw [(h t).2.2]; omega

/-- With real weights, the operands that every point reads whole are the tables over them. -/
theorem tables (w e : Fin 256 → ℝ) (hw : ∀ k, m (c, Proc.tc.devRef main_arg1) (ix1 k) = (w k : EReal))
    (he : ∀ k, (Host.exp (m (c, Proc.tc.devRef main_arg2)) : FVec Ideal S256 .f32) (ix1 k) = (e k : EReal)) :
    Tables w e (iblk m c 0 t) (iblk m c 1 t) (iblk m c 2 t) (iblk m c 3 t) where
  shiftRow r k := by rw [iblk0, V_stacked]; exact stacked_shift _ _ w hw r k
  scaleRow r k := by rw [iblk0, V_stacked]; exact stacked_scale _ _ e he r k
  squareRow r k := by rw [iblk1, V_scales]; exact scales_apply _ e he r k
  triangle i j := by rw [iblk2]; exact V_triangle m c i j
  decay j := by rw [iblk3]; exact V_decay m c j

end Cert.KernelValue
-- ==== Proof.Carry.lean ====
module

public import proofs.«01_k».proof.Proof.Blocks
public import Idealize.ShloMosaic.Lib.Pipeline.ValueKit
public import Idealize.ShloMosaic.Lib.WritesUnit

/-! How the two columns that carry the averages from point to point are stored in the scratch and read from it. -/

@[expose] public section

set_option maxRecDepth 16384

noncomputable section

namespace Cert.KernelValue

open Idealize.ShloMosaic Idealize.ShloMosaic.TcCoe Idealize.SL.Sem
open Cert.KernelIdeal Cert.KernelIdeal.Gen

/-- The upper four rows of the scratch's first column. -/
abbrev upper : Rect S8x128 := Rect.unit (s := S8x128) ![0, 0] S4x1.size inb_S8x128_S4x1_0_0
/-- The lower four rows of the scratch's first column. -/
abbrev lower : Rect S8x128 := Rect.unit (s := S8x128) ![4, 0] S4x1.size inb_S8x128_S4x1_4_0
/-- The whole scratch. -/
abbrev full : Rect S8x128 := Rect.unit (s := S8x128) ![0, 0] S8x128.size inb_S8x128_S8x128_0_0

theorem upper_emb (r : Fin 4) : upper.emb (ix2 r (0 : Fin 1)) = ix2 (⟨r.val, by omega⟩ : Fin 8) (0 : Fin 128) := by
  funext a
  fin_cases a
  · exact Fin.ext (show 0 + 1 * r.val = r.val by omega)
  · rfl

theorem lower_emb (r : Fin 4) : lower.emb (ix2 r (0 : Fin 1)) = ix2 (⟨4 + r.val, by omega⟩ : Fin 8) (0 : Fin 128) := by
  funext a
  fin_cases a
  · exact Fin.ext (show 4 + 1 * r.val = 4 + r.val by omega)
  · rfl

theorem not_lower (r : Fin 4) : ix2 (⟨r.val, by omega⟩ : Fin 8) (0 : Fin 128) ∉ lower.set := by
  rw [Rect.mem_set_unit]
  intro h
  have h0 : 4 ≤ r.val := (h 0).1
  omega

/-- What the first point of a group leaves in the upper rows: the last piece stored there. -/
theorem canon_upper (u v : S4x1.Idx → EReal) (L : List (View.Piece (Elt Ideal) S8x128 .f32)) (r : Fin 4) :
    View.canon ((⟨lower, u⟩ : View.Piece (Elt Ideal) S8x128 .f32) :: ⟨upper, v⟩ :: L) (ix2 (⟨r.val, by omega⟩ : Fin 8) (0 : Fin 128)) = v (ix2 r (0 : Fin 1)) := by
  refine (View.canon_cons_of_not_mem (⟨lower, u⟩ : View.Piece (Elt Ideal) S8x128 .f32) (⟨upper, v⟩ :: L) (not_lower r)).trans ?_
  rw [← upper_emb r]
  exact View.canon_cons_emb upper v L _

/-- What the first point of a group leaves in the lower rows. -/
theorem canon_lower (u : S4x1.Idx → EReal) (L : List (View.Piece (Elt Ideal) S8x128 .f32)) (r : Fin 4) :
    View.canon ((⟨lower, u⟩ : View.Piece (Elt Ideal) S8x128 .f32) :: L) (ix2 (⟨4 + r.val, by omega⟩ : Fin 8) (0 : Fin 128)) = u (ix2 r (0 : Fin 1)) := by
  rw [← lower_emb r]
  exact View.canon_cons_emb lower u L _

section
variable (f : (View.whole cc0_scratch0).ty.Contents (Elt Ideal))

/-- What a later point leaves in the upper rows. -/
theorem writes_upper (u v : S4x1.Idx → EReal) (r : Fin 4) :
    View.read (Elt Ideal) (View.whole cc0_scratch0) ((View.whole cc0_scratch0).writes (Elt Ideal) f [⟨lower, u⟩, ⟨upper, v⟩])
      (ix2 (⟨r.val, by omega⟩ : Fin 8) (0 : Fin 128)) = v (ix2 r (0 : Fin 1)) := by
  refine (View.read_writes_cons_unit_of_not_mem (View.whole cc0_scratch0) f inb_S8x128_S4x1_4_0 u [⟨upper, v⟩] _ rfl (0 : Fin 2) (Or.inl ?_)).trans ?_
  · show r.val < 4
    omega
  · refine View.read_writes_cons_unit_of_mem (View.whole cc0_scratch0) f inb_S8x128_S4x1_0_0 v [] _ (ix2 r (0 : Fin 1)) rfl fun a => ?_
    fin_cases a
    · exact (Nat.zero_add _).symm
    · rfl

/-- What a later point leaves in the lower rows. -/
theorem writes_lower (u v : S4x1.Idx → EReal) (r : Fin 4) :
    View.read (Elt Ideal) (View.whole cc0_scratch0) ((View.whole cc0_scratch0).writes (Elt Ideal) f [⟨lower, u⟩, ⟨upper, v⟩])
      (ix2 (⟨4 + r.val, by omega⟩ : Fin 8) (0 : Fin 128)) = u (ix2 r (0 : Fin 1)) := by
  refine View.read_writes_cons_unit_of_mem (View.whole cc0_scratch0) f inb_S8x128_S4x1_4_0 u [⟨upper, v⟩] _ (ix2 r (0 : Fin 1)) rfl fun a => ?_
  fin_cases a
  · rfl
  · rfl
end

/-- The scratch just cleared holds zero everywhere. -/
theorem cleared (y : S8x128.Idx) : View.canon [(⟨full, k0_pay1 (F := Ideal)⟩ : View.Piece (Elt Ideal) S8x128 .f32)] y = (0 : EReal) := by
  obtain ⟨i, j, rfl⟩ : ∃ (i : Fin 8) (j : Fin 128), y = ix2 i j := ⟨y 0, y 1, by funext a; fin_cases a <;> rfl⟩
  have h := View.canon_cons_unit_zero (Val := Elt Ideal) (e := .f32) (S := S8x128) (off := ![0, 0]) (by funext a; fin_cases a <;> rfl) inb_S8x128_S8x128_0_0 (k0_pay1 (F := Ideal)) []
  exact (congrFun h (ix2 i j)).trans (pay1_apply i j)

/-- The first point of a group finds zero in the upper rows. -/
theorem cleared_upper (r : Fin 4) :
    (View.whole cc0_scratch0).readCov [(⟨full, k0_pay1 (F := Ideal)⟩ : View.Piece (Elt Ideal) S8x128 .f32)] upper.toLoadRect (ix2 r (0 : Fin 1)) = (0 : EReal) := by
  rw [View.readCov_eq_canon']
  exact cleared _

/-- The first point of a group finds zero in the lower rows. -/
theorem cleared_lower (r : Fin 4) :
    (View.whole cc0_scratch0).readCov [(⟨full, k0_pay1 (F := Ideal)⟩ : View.Piece (Elt Ideal) S8x128 .f32)] lower.toLoadRect (ix2 r (0 : Fin 1)) = (0 : EReal) := by
  rw [View.readCov_eq_canon']
  exact cleared _

end Cert.KernelValue
-- ==== Proof.Points.lean ====
module

public import proofs.«01_k».proof.Proof.Carry

/-! What the kernel leaves after every grid point: the carried averages in the scratch, and the block of the result. -/

@[expose] public section

set_option maxRecDepth 16384

noncomputable section

namespace Cert.KernelValue

open Idealize.ShloMosaic Idealize.ShloMosaic.TcCoe Idealize.SL.Sem
open Cert.KernelIdeal Cert.KernelIdeal.Gen Cert.Model Cert.Lit Cert.Ema

section
variable (m : (ℓ : Loc nD τ sig) → Buf (Elt Ideal) ℓ) (c : Dev nD) (w e : Fin 256 → ℝ) (x : Fin 8 → Fin 256 → ℕ → ℝ)

/-- The launch's arguments on device `c` are real: the shift weights `w`, the exponentials `e` of the log scale weights, and the samples `x`. -/
structure RealArgs : Prop where
  shifts : ∀ k, m (c, Proc.tc.devRef main_arg1) (ix1 k) = (w k : EReal)
  scales : ∀ k, (Host.exp (m (c, Proc.tc.devRef main_arg2)) : FVec Ideal S256 .f32) (ix1 k) = (e k : EReal)
  samples : ∀ b k (j : Fin 16384), m (c, Proc.tc.devRef main_arg0) (ix3 b k j) = ((x b k j.val : ℝ) : EReal)

/-- The scratch `s` carries, for the batches of point `t`, both averages over the first `n` times. -/
structure Carries (t : Fin cfg0.N) (n : ℕ) (s : Vec Ideal S8x128 .f32) : Prop where
  shift : ∀ r : Fin 4, s (ix2 (⟨r.val, by omega⟩ : Fin 8) (0 : Fin 128)) = ((ema fresh stay (mix w (x (batch t r))) n : ℝ) : EReal)
  spread : ∀ r : Fin 4, s (ix2 (⟨4 + r.val, by omega⟩ : Fin 8) (0 : Fin 128)) = ((ema fresh stay (spread w e (x (batch t r))) n : ℝ) : EReal)

/-- Element `(b, k, j)` of the result. -/
def result (wp bp : Fin 256 → EReal) (b : Fin 8) (k : Fin 256) (j : ℕ) : EReal :=
  ((x b k j - shift w (x b) j : ℝ) : EReal) * Ideal.rsqrt ((scale w e (x b) j + tiny : ℝ) : EReal) * wp k + bp k

variable {m c w e x}

/-- The samples that point `t` reads, as reals. -/
theorem block_real (A : RealArgs m c w e x) (t : Fin cfg0.N) (r : Fin 4) (k : Fin 256) (j : Fin 512) :
    iblk m c 6 t (ix3 r k j) = ((x (batch t r) k (512 * (t.val % 32) + j.val) : ℝ) : EReal) :=
  (iblk6 m c t r k j).trans (A.samples _ _ _)

/-- The first point of a group leaves both averages over its stretch. -/
theorem first_carry (A : RealArgs m c w e x) (t : Fin cfg0.N) (h0 : t.val % 32 = 0) :
    Carries w e x t (512 * (t.val % 32) + 512) (outsAt0 m c t.val t.isLt).2 := by
  have T := tables m c t w e A.shifts A.scales
  have h6 := block_real A t
  rw [h0] at h6 ⊢
  have ha : ∀ r : Fin 4, _ = ((ema fresh stay (mix w (x (batch t r))) (512 * 0) : ℝ) : EReal) := cleared_upper
  have hb : ∀ r : Fin 4, _ = ((ema fresh stay (spread w e (x (batch t r))) (512 * 0) : ℝ) : EReal) := cleared_lower
  rw [outsAt0_A m c t h0]
  constructor
  · intro r
    frame_out
    exact (canon_upper _ _ _ r).trans (carry_shift T _ (fun r => x (batch t r)) (512 * 0) h6 _ _ ha hb r)
  · intro r
    frame_out
    exact (canon_lower _ _ r).trans (carry_scale T _ (fun r => x (batch t r)) (512 * 0) h6 _ _ ha hb r)

/-- The first point of a group leaves its block of the result. -/
theorem first_out (A : RealArgs m c w e x) (t : Fin cfg0.N) (h0 : t.val % 32 = 0) (r : Fin 4) (k : Fin 256) (j : Fin 512) :
    (outsAt0 m c t.val t.isLt).1 (ix3 r k j)
      = result w e x (fun k => iblk m c 4 t (ix2 k (0 : Fin 1))) (fun k => iblk m c 5 t (ix2 k (0 : Fin 1))) (batch t r) k (512 * (t.val % 32) + j.val) := by
  have T := tables m c t w e A.shifts A.scales
  have h6 := block_real A t
  rw [h0] at h6 ⊢
  have ha : ∀ r : Fin 4, _ = ((ema fresh stay (mix w (x (batch t r))) (512 * 0) : ℝ) : EReal) := cleared_upper
  have hb : ∀ r : Fin 4, _ = ((ema fresh stay (spread w e (x (batch t r))) (512 * 0) : ℝ) : EReal) := cleared_lower
  rw [outsAt0_A m c t h0]
  frame_out
  exact out_value T _ (fun r => x (batch t r)) (512 * 0) h6 _ _ ha hb _ _ r k j

/-- What a later point loads of the scratch's upper rows. -/
theorem loaded_upper {t : Fin cfg0.N} {n : ℕ} {s : Vec Ideal S8x128 .f32} (C : Carries w e x t n s) (r : Fin 4) :
    View.ld (View.read (Elt Ideal) (View.whole cc0_scratch0) ((Memref.isWhole_whole cc0_scratch0).unread s)) upper (ix2 r (0 : Fin 1))
      = ((ema fresh stay (mix w (x (batch t r))) n : ℝ) : EReal) := by
  rw [(Memref.isWhole_whole cc0_scratch0).read_unread]
  exact (congrArg s (upper_emb r)).trans (C.shift r)

/-- What a later point loads of the scratch's lower rows. -/
theorem loaded_lower {t : Fin cfg0.N} {n : ℕ} {s : Vec Ideal S8x128 .f32} (C : Carries w e x t n s) (r : Fin 4) :
    View.ld (View.read (Elt Ideal) (View.whole cc0_scratch0) ((Memref.isWhole_whole cc0_scratch0).unread s)) lower (ix2 r (0 : Fin 1))
      = ((ema fresh stay (spread w e (x (batch t r))) n : ℝ) : EReal) := by
  rw [(Memref.isWhole_whole cc0_scratch0).read_unread]
  exact (congrArg s (lower_emb r)).trans (C.spread r)

/-- A later point carries both averages over its stretch too. -/
theorem later_carry (A : RealArgs m c w e x) (t : Fin cfg0.N) (h0 : ¬t.val % 32 = 0)
    (C : Carries w e x t (512 * (t.val % 32)) (outsAt0 m c (t.val - 1) (by have := t.isLt; omega)).2) :
    Carries w e x t (512 * (t.val % 32) + 512) (outsAt0 m c t.val t.isLt).2 := by
  have T := tables m c t w e A.shifts A.scales
  have h6 := block_real A t
  have ha := loaded_upper C
  have hb := loaded_lower C
  rw [outsAt0_B m c t h0]
  constructor
  · intro r
    frame_out
    exact (writes_upper _ _ _ r).trans (carry_shift T _ (fun r => x (batch t r)) _ h6 _ _ ha hb r)
  · intro r
    frame_out
    exact (writes_lower _ _ _ r).trans (carry_scale T _ (fun r => x (batch t r)) _ h6 _ _ ha hb r)

/-- A later point leaves its block of the result. -/
theorem later_out (A : RealArgs m c w e x) (t : Fin cfg0.N) (h0 : ¬t.val % 32 = 0)
    (C : Carries w e x t (512 * (t.val % 32)) (outsAt0 m c (t.val - 1) (by have := t.isLt; omega)).2) (r : Fin 4) (k : Fin 256) (j : Fin 512) :
    (outsAt0 m c t.val t.isLt).1 (ix3 r k j)
      = result w e x (fun k => iblk m c 4 t (ix2 k (0 : Fin 1))) (fun k => iblk m c 5 t (ix2 k (0 : Fin 1))) (batch t r) k (512 * (t.val % 32) + j.val) := by
  have T := tables m c t w e A.shifts A.scales
  have h6 := block_real A t
  have ha := loaded_upper C
  have hb := loaded_lower C
  rw [outsAt0_B m c t h0]
  frame_out
  exact out_value T _ (fun r => x (batch t r)) _ h6 _ _ ha hb _ _ r k j

/-- The averages carried from the point before are those that the point needs. -/
theorem carries_next {t : Fin cfg0.N} (h0 : ¬t.val % 32 = 0) {s : Vec Ideal S8x128 .f32} {h : t.val - 1 < cfg0.N}
    (C : Carries w e x ⟨t.val - 1, h⟩ (512 * ((t.val - 1) % 32) + 512) s) : Carries w e x t (512 * (t.val % 32)) s := by
  have hb : ∀ r, batch ⟨t.val - 1, h⟩ r = batch t r := fun r => Fin.ext (show 4 * ((t.val - 1) / 32) + r.val = 4 * (t.val / 32) + r.val by omega)
  have hn : 512 * ((t.val - 1) % 32) + 512 = 512 * (t.val % 32) := by omega
  rw [hn] at C
  exact ⟨fun r => (C.shift r).trans (by rw [hb]), fun r => (C.spread r).trans (by rw [hb])⟩

/-- After every point the scratch carries both averages over all times so far. -/
theorem carries (A : RealArgs m c w e x) : ∀ (n : ℕ) (h : n < cfg0.N), Carries w e x ⟨n, h⟩ (512 * (n % 32) + 512) (outsAt0 m c n h).2 := by
  intro n
  induction n with
  | zero => exact fun h => first_carry A ⟨0, h⟩ rfl
  | succ n ih =>
    intro h
    by_cases h0 : (n + 1) % 32 = 0
    · exact first_carry A ⟨n + 1, h⟩ h0
    · exact later_carry A ⟨n + 1, h⟩ h0 (carries_next (t := ⟨n + 1, h⟩) h0 (h := by omega) (ih (by omega)))

/-- After every point its block of the result is there. -/
theorem outs (A : RealArgs m c w e x) (t : Fin cfg0.N) (r : Fin 4) (k : Fin 256) (j : Fin 512) :
    (outsAt0 m c t.val t.isLt).1 (ix3 r k j)
      = result w e x (fun k => m (c, Proc.tc.devRef main_arg3) (ix1 k)) (fun k => m (c, Proc.tc.devRef main_arg4) (ix1 k)) (batch t r) k (512 * (t.val % 32) + j.val) := by
  have h4 : ∀ k, iblk m c 4 t (ix2 k (0 : Fin 1)) = m (c, Proc.tc.devRef main_arg3) (ix1 k) := fun k => (iblk4 m c t k).trans (V_weights m c k)
  have h5 : ∀ k, iblk m c 5 t (ix2 k (0 : Fin 1)) = m (c, Proc.tc.devRef main_arg4) (ix1 k) := fun k => (iblk5 m c t k).trans (V_bias m c k)
  simp only [← h4, ← h5]
  by_cases h0 : t.val % 32 = 0
  · exact first_out A t h0 r k j
  · have ht := t.isLt
    exact later_out A t h0 (carries_next h0 (carries A (t.val - 1) (by omega))) r k j

/-- The whole result. -/
theorem kernel_value (A : RealArgs m c w e x) (b : Fin 8) (k : Fin 256) (j : Fin 16384) :
    Value.G7 m c (ix3 b k j)
      = result w e x (fun k => m (c, Proc.tc.devRef main_arg3) (ix1 k)) (fun k => m (c, Proc.tc.devRef main_arg4) (ix1 k)) b k j.val := by
  have hp : Value.pt7Of (ix3 b k j) = 32 * (b.val / 4) + j.val / 512 := by
    show 32 * (b.val / 4 - 0) + 32 * (k.val / 256 - 0) + 1 * (j.val / 512 - 0) = _
    omega
  have hlt : 32 * (b.val / 4) + j.val / 512 < cfg0.N := lt_of_lt_of_eq (by omega) N_0.symm
  have hl : Value.loc7Of (ix3 b k j) = ix3 (⟨b.val % 4, by omega⟩ : Fin 4) (⟨k.val % 256, by omega⟩ : Fin 256) (⟨j.val % 512, by omega⟩ : Fin 512) := by
    funext a
    fin_cases a <;> rfl
  unfold Value.G7
  rw [dif_pos (by rw [hp]; exact hlt), ← Value.outsAt0_sweep m c _ (by rw [hp]; exact hlt), hl]
  have key := outs A ⟨_, hlt⟩ ⟨b.val % 4, by omega⟩ ⟨k.val % 256, by omega⟩ ⟨j.val % 512, by omega⟩
  simp only [hp]
  refine key.trans ?_
  have hb : batch ⟨_, hlt⟩ ⟨b.val % 4, by omega⟩ = b := Fin.ext (show 4 * ((32 * (b.val / 4) + j.val / 512) / 32) + b.val % 4 = b.val by omega)
  have hk : (⟨k.val % 256, by omega⟩ : Fin 256) = k := Fin.ext (Nat.mod_eq_of_lt k.isLt)
  have hj : 512 * ((32 * (b.val / 4) + j.val / 512) % 32) + j.val % 512 = j.val := by omega
  rw [hb, hk]
  show result w e x _ _ b k (512 * ((32 * (b.val / 4) + j.val / 512) % 32) + j.val % 512) = _
  rw [hj]
end

end Cert.KernelValue
-- ==== Proof.RefOps.lean ====
/- The reference's host operations as lists: the stretches of its main function before, between and after its two counted
   loops, and those of each loop's body and condition. Of each list: it touches TensorCore references only, allocates
   nothing, and writes the references named. Last, main and the two loop bodies are the chains of these lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.RefRun

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- The operations before the first loop, in order. -/
abbrev preOps : List (HloOp τ sig (Elt F)) :=
  [ StableHlo.unary main_arg0 main_v0 ((transpose S16384x8x256 [2, 0, 1] · transposes_S8x256x16384_S16384x8x256_2_0_1) : (⟨S8x256x16384, .f32⟩ : BufTy).Contents (Elt F) → (⟨S16384x8x256, .f32⟩ : BufTy).Contents (Elt F)),
    StableHlo.unary main_v0 main_v1 ((extractStridedSlice S1x8x256 ![0, 0, 0] · slices_S16384x8x256_S1x8x256_0_0_0) : (⟨S16384x8x256, .f32⟩ : BufTy).Contents (Elt F) → (⟨S1x8x256, .f32⟩ : BufTy).Contents (Elt F)),
    StableHlo.reshape main_v1 main_v2 (rfl : (.f32 : EltTy) = .f32) shapeCasts_S1x8x256_S8x256,
    StableHlo.nullary main_cst (constant S_ .f32 0x00000000#32),
    StableHlo.unary main_cst main_v3 (broadcastInDim S8x256 ![] bcast_S_S8x256 : (⟨S_, .f32⟩ : BufTy).Contents (Elt F) → (⟨S8x256, .f32⟩ : BufTy).Contents (Elt F)),
    StableHlo.nullary main_cst_0 (constant S_ .f32 0x3C23D70A#32),
    StableHlo.nullary main_cst_1 (constant S_ .f32 0x3F7D70A4#32),
    StableHlo.nullary main_cst_2 (constant S_ .f32 0x00000000#32),
    StableHlo.unary main_cst_2 main_v4 (broadcastInDim S16384x8x256 ![] bcast_S_S16384x8x256 : (⟨S_, .f32⟩ : BufTy).Contents (Elt F) → (⟨S16384x8x256, .f32⟩ : BufTy).Contents (Elt F)),
    StableHlo.nullary main_c (constantI S_ 32 0#32),
    StableHlo.unary main_v0 main_v5_0 id,
    StableHlo.unary main_cst_0 main_v5_1 id,
    StableHlo.unary main_cst_1 main_v5_2 id,
    StableHlo.unary main_c main_v5_3 id,
    StableHlo.unary main_v3 main_v5_4 id,
    StableHlo.unary main_v4 main_v5_5 id ]
/-- `preOps` touches TensorCore references only. -/
theorem preOps_sub : (preOps : List (HloOp τ sig (Elt F))).Forall fun op => op.bufs ⊆ tcRefs τ sig :=
  ⟨unary_bufs_sub .., unary_bufs_sub .., reshape_bufs_sub .., nullary_bufs_sub .., unary_bufs_sub .., nullary_bufs_sub .., nullary_bufs_sub .., nullary_bufs_sub .., unary_bufs_sub .., nullary_bufs_sub .., unary_bufs_sub .., unary_bufs_sub .., unary_bufs_sub .., unary_bufs_sub .., unary_bufs_sub .., unary_bufs_sub ..⟩
/-- `preOps` allocates no buffer. -/
theorem preOps_fresh : (preOps : List (HloOp τ sig (Elt F))).Forall fun op => op.fresh = ∅ :=
  forall_fresh_of_map rfl
/-- The references `preOps` writes. -/
abbrev preOps_W : List (Ref sig .tc) := [main_v0, main_v1, main_v2, main_cst, main_v3, main_cst_0, main_cst_1, main_cst_2, main_v4, main_c, main_v5_0, main_v5_1, main_v5_2, main_v5_3, main_v5_4, main_v5_5]
/-- `preOps` writes those references only. -/
theorem preOps_writes : (preOps : List (HloOp τ sig (Elt F))).Forall fun op => op.writes ⊆ (preOps_W.map (Proc.devRef (τ := τ) .tc)).toFinset :=
  forall_writes_sub_of_map rfl

/-- The operations between the loops, in order. -/
abbrev midOps : List (HloOp τ sig (Elt F)) :=
  [ StableHlo.unary main_v5_5 main_v6 ((transpose S8x256x16384 [1, 2, 0] · transposes_S16384x8x256_S8x256x16384_1_2_0) : (⟨S16384x8x256, .f32⟩ : BufTy).Contents (Elt F) → (⟨S8x256x16384, .f32⟩ : BufTy).Contents (Elt F)),
    StableHlo.binary main_arg1 main_v6 main_v7 ((fun l r => Host.dotGeneral dot_S256_S8x256x16384_S8x16384_0_1_n_02_n_n none l r) : (⟨S256, .f32⟩ : BufTy).Contents (Elt F) → (⟨S8x256x16384, .f32⟩ : BufTy).Contents (Elt F) → (⟨S8x16384, .f32⟩ : BufTy).Contents (Elt F)),
    StableHlo.unary main_v7 main_v8 (broadcastInDim S8x1x16384 ![0, 2] bcast_S8x16384_S8x1x16384_0_2 : (⟨S8x16384, .f32⟩ : BufTy).Contents (Elt F) → (⟨S8x1x16384, .f32⟩ : BufTy).Contents (Elt F)),
    StableHlo.unary main_v8 main_v9 (broadcastInDim S8x256x16384 ![0, 1, 2] bcast_S8x1x16384_S8x256x16384_0_1_2 : (⟨S8x1x16384, .f32⟩ : BufTy).Contents (Elt F) → (⟨S8x256x16384, .f32⟩ : BufTy).Contents (Elt F)),
    StableHlo.binary main_arg0 main_v9 main_v10 (subf : (⟨S8x256x16384, .f32⟩ : BufTy).Contents (Elt F) → (⟨S8x256x16384, .f32⟩ : BufTy).Contents (Elt F) → (⟨S8x256x16384, .f32⟩ : BufTy).Contents (Elt F)),
    StableHlo.binary main_v10 main_v10 main_v11 (mulf : (⟨S8x256x16384, .f32⟩ : BufTy).Contents (Elt F) → (⟨S8x256x16384, .f32⟩ : BufTy).Contents (Elt F) → (⟨S8x256x16384, .f32⟩ : BufTy).Contents (Elt F)),
    StableHlo.unary main_v11 main_v12 ((transpose S16384x8x256 [2, 0, 1] · transposes_S8x256x16384_S16384x8x256_2_0_1) : (⟨S8x256x16384, .f32⟩ : BufTy).Contents (Elt F) → (⟨S16384x8x256, .f32⟩ : BufTy).Contents (Elt F)),
    StableHlo.unary main_v12 main_v13 ((extractStridedSlice S1x8x256 ![0, 0, 0] · slices_S16384x8x256_S1x8x256_0_0_0) : (⟨S16384x8x256, .f32⟩ : BufTy).Contents (Elt F) → (⟨S1x8x256, .f32⟩ : BufTy).Contents (Elt F)),
    StableHlo.reshape main_v13 main_v14 (rfl : (.f32 : EltTy) = .f32) shapeCasts_S1x8x256_S8x256,
    StableHlo.nullary main_cst_3 (constant S_ .f32 0x00000000#32),
    StableHlo.unary main_cst_3 main_v15 (broadcastInDim S8x256 ![] bcast_S_S8x256 : (⟨S_, .f32⟩ : BufTy).Contents (Elt F) → (⟨S8x256, .f32⟩ : BufTy).Contents (Elt F)),
    StableHlo.nullary main_cst_4 (constant S_ .f32 0x3C23D70A#32),
    StableHlo.nullary main_cst_5 (constant S_ .f32 0x3F7D70A4#32),
    StableHlo.nullary main_cst_6 (constant S_ .f32 0x00000000#32),
    StableHlo.unary main_cst_6 main_v16 (broadcastInDim S16384x8x256 ![] bcast_S_S16384x8x256 : (⟨S_, .f32⟩ : BufTy).Contents (Elt F) → (⟨S16384x8x256, .f32⟩ : BufTy).Contents (Elt F)),
    StableHlo.nullary main_c_7 (constantI S_ 32 0#32),
    StableHlo.unary main_v12 main_v17_0 id,
    StableHlo.unary main_cst_4 main_v17_1 id,
    StableHlo.unary main_cst_5 main_v17_2 id,
    StableHlo.unary main_c_7 main_v17_3 id,
    StableHlo.unary main_v15 main_v17_4 id,
    StableHlo.unary main_v16 main_v17_5 id ]
/-- `midOps` touches TensorCore references only. -/
theorem midOps_sub : (midOps : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., unary_bufs_sub .., reshape_bufs_sub .., nullary_bufs_sub .., unary_bufs_sub .., nullary_bufs_sub .., nullary_bufs_sub .., nullary_bufs_sub .., unary_bufs_sub .., nullary_bufs_sub .., unary_bufs_sub .., unary_bufs_sub .., unary_bufs_sub .., unary_bufs_sub .., unary_bufs_sub .., unary_bufs_sub ..⟩
/-- `midOps` allocates no buffer. -/
theorem midOps_fresh : (midOps : List (HloOp τ sig (Elt F))).Forall fun op => op.fresh = ∅ :=
  forall_fresh_of_map rfl
/-- The references `midOps` writes. -/
abbrev midOps_W : List (Ref sig .tc) := [main_v6, main_v7, main_v8, main_v9, main_v10, main_v11, main_v12, main_v13, main_v14, main_cst_3, main_v15, main_cst_4, main_cst_5, main_cst_6, main_v16, main_c_7, main_v17_0, main_v17_1, main_v17_2, main_v17_3, main_v17_4, main_v17_5]
/-- `midOps` writes those references only. -/
theorem midOps_writes : (midOps : List (HloOp τ sig (Elt F))).Forall fun op => op.writes ⊆ (midOps_W.map (Proc.devRef (τ := τ) .tc)).toFinset :=
  forall_writes_sub_of_map rfl

/-- The operations after the second loop, in order. -/
abbrev postOps : List (HloOp τ sig (Elt F)) :=
  [ StableHlo.unary main_v17_5 main_v18 ((transpose S8x256x16384 [1, 2, 0] · transposes_S16384x8x256_S8x256x16384_1_2_0) : (⟨S16384x8x256, .f32⟩ : BufTy).Contents (Elt F) → (⟨S8x256x16384, .f32⟩ : BufTy).Contents (Elt F)),
    StableHlo.unary main_arg2 main_v19 (Host.exp : (⟨S256, .f32⟩ : BufTy).Contents (Elt F) → (⟨S256, .f32⟩ : BufTy).Contents (Elt F)),
    StableHlo.binary main_v19 main_v18 main_v20 ((fun l r => Host.dotGeneral dot_S256_S8x256x16384_S8x16384_0_1_n_02_n_n none l r) : (⟨S256, .f32⟩ : BufTy).Contents (Elt F) → (⟨S8x256x16384, .f32⟩ : BufTy).Contents (Elt F) → (⟨S8x16384, .f32⟩ : BufTy).Contents (Elt F)),
    StableHlo.unary main_v20 main_v21 (broadcastInDim S8x1x16384 ![0, 2] bcast_S8x16384_S8x1x16384_0_2 : (⟨S8x16384, .f32⟩ : BufTy).Contents (Elt F) → (⟨S8x1x16384, .f32⟩ : BufTy).Contents (Elt F)),
    StableHlo.nullary main_cst_8 (constant S_ .f32 0x358637BD#32),
    StableHlo.unary main_cst_8 main_v22 (broadcastInDim S8x1x16384 ![] bcast_S_S8x1x16384 : (⟨S_, .f32⟩ : BufTy).Contents (Elt F) → (⟨S8x1x16384, .f32⟩ : BufTy).Contents (Elt F)),
    StableHlo.binary main_v21 main_v22 main_v23 (addf : (⟨S8x1x16384, .f32⟩ : BufTy).Contents (Elt F) → (⟨S8x1x16384, .f32⟩ : BufTy).Contents (Elt F) → (⟨S8x1x16384, .f32⟩ : BufTy).Contents (Elt F)),
    StableHlo.unary main_v23 main_v24 (Host.sqrt : (⟨S8x1x16384, .f32⟩ : BufTy).Contents (Elt F) → (⟨S8x1x16384, .f32⟩ : BufTy).Contents (Elt F)),
    StableHlo.unary main_v24 main_v25 (broadcastInDim S8x256x16384 ![0, 1, 2] bcast_S8x1x16384_S8x256x16384_0_1_2 : (⟨S8x1x16384, .f32⟩ : BufTy).Contents (Elt F) → (⟨S8x256x16384, .f32⟩ : BufTy).Contents (Elt F)),
    StableHlo.binary main_v10 main_v25 main_v26 (Host.divf : (⟨S8x256x16384, .f32⟩ : BufTy).Contents (Elt F) → (⟨S8x256x16384, .f32⟩ : BufTy).Contents (Elt F) → (⟨S8x256x16384, .f32⟩ : BufTy).Contents (Elt F)),
    StableHlo.unary main_arg3 main_v27 (broadcastInDim S1x256x1 ![1] bcast_S256_S1x256x1_1 : (⟨S256, .f32⟩ : BufTy).Contents (Elt F) → (⟨S1x256x1, .f32⟩ : BufTy).Contents (Elt F)),
    StableHlo.unary main_v27 main_v28 (broadcastInDim S8x256x16384 ![0, 1, 2] bcast_S1x256x1_S8x256x16384_0_1_2 : (⟨S1x256x1, .f32⟩ : BufTy).Contents (Elt F) → (⟨S8x256x16384, .f32⟩ : BufTy).Contents (Elt F)),
    StableHlo.binary main_v26 main_v28 main_v29 (mulf : (⟨S8x256x16384, .f32⟩ : BufTy).Contents (Elt F) → (⟨S8x256x16384, .f32⟩ : BufTy).Contents (Elt F) → (⟨S8x256x16384, .f32⟩ : BufTy).Contents (Elt F)),
    StableHlo.unary main_arg4 main_v30 (broadcastInDim S1x256x1 ![1] bcast_S256_S1x256x1_1 : (⟨S256, .f32⟩ : BufTy).Contents (Elt F) → (⟨S1x256x1, .f32⟩ : BufTy).Contents (Elt F)),
    StableHlo.unary main_v30 main_v31 (broadcastInDim S8x256x16384 ![0, 1, 2] bcast_S1x256x1_S8x256x16384_0_1_2 : (⟨S1x256x1, .f32⟩ : BufTy).Contents (Elt F) → (⟨S8x256x16384, .f32⟩ : BufTy).Contents (Elt F)),
    StableHlo.binary main_v29 main_v31 main_v32 (addf : (⟨S8x256x16384, .f32⟩ : BufTy).Contents (Elt F) → (⟨S8x256x16384, .f32⟩ : BufTy).Contents (Elt F) → (⟨S8x256x16384, .f32⟩ : BufTy).Contents (Elt F)) ]
/-- `postOps` touches TensorCore references only. -/
theorem postOps_sub : (postOps : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- `postOps` allocates no buffer. -/
theorem postOps_fresh : (postOps : List (HloOp τ sig (Elt F))).Forall fun op => op.fresh = ∅ :=
  forall_fresh_of_map rfl
/-- The references `postOps` writes. -/
abbrev postOps_W : List (Ref sig .tc) := [main_v18, main_v19, main_v20, main_v21, main_cst_8, main_v22, main_v23, main_v24, main_v25, main_v26, main_v27, main_v28, main_v29, main_v30, main_v31, main_v32]
/-- `postOps` writes those references only. -/
theorem postOps_writes : (postOps : List (HloOp τ sig (Elt F))).Forall fun op => op.writes ⊆ (postOps_W.map (Proc.devRef (τ := τ) .tc)).toFinset :=
  forall_writes_sub_of_map rfl

/-- The first loop's read of the current sample, in order. -/
abbrev read0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v5_0 : StableHlo.TRef sig ⟨S16384x8x256, .f32⟩) ![(.of main_v5_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8x256, .f32⟩) (fun x i => Host.dynamicSlice S1x8x256 x (fun k => (i k (Shape.Idx.first h_S_)).toInt) sliceFits_S16384x8x256_S1x8x256),
    StableHlo.TRef.reshape (.of main_while0b_call0_v0 : StableHlo.TRef sig ⟨S1x8x256, .f32⟩) (.of main_while0b_v33 : StableHlo.TRef sig ⟨S8x256, .f32⟩) (rfl : (.f32 : EltTy) = .f32) shapeCasts_S1x8x256_S8x256 ]
/-- `read0` touches TensorCore references only. -/
theorem read0_sub : (read0 : List (HloOp τ sig (Elt F))).Forall fun op => op.bufs ⊆ tcRefs τ sig :=
  ⟨nullary_bufs_sub .., nullary_bufs_sub .., unaryIndexed_bufs_sub .., reshape_bufs_sub ..⟩
/-- `read0` allocates no buffer. -/
theorem read0_fresh : (read0 : List (HloOp τ sig (Elt F))).Forall fun op => op.fresh = ∅ :=
  forall_fresh_of_map rfl
/-- The references `read0` writes. -/
abbrev read0_W : List (Ref sig .tc) := [main_while0b_call0_c, main_while0b_call0_c_0, main_while0b_call0_v0, main_while0b_v33]
/-- `read0` writes those references only. -/
theorem read0_writes : (read0 : List (HloOp τ sig (Elt F))).Forall fun op => op.writes ⊆ (read0_W.map (Proc.devRef (τ := τ) .tc)).toFinset :=
  forall_writes_sub_of_map rfl

/-- The first loop's one step of the average, in order. -/
abbrev step0 : List (HloOp τ sig (Elt F)) :=
  [ StableHlo.unary main_v5_1 main_while0b_v34 (broadcastInDim S8x256 ![] bcast_S_S8x256 : (⟨S_, .f32⟩ : BufTy).Contents (Elt F) → (⟨S8x256, .f32⟩ : BufTy).Contents (Elt F)),
    StableHlo.binary main_while0b_v34 main_while0b_v33 main_while0b_v35 (mulf : (⟨S8x256, .f32⟩ : BufTy).Contents (Elt F) → (⟨S8x256, .f32⟩ : BufTy).Contents (Elt F) → (⟨S8x256, .f32⟩ : BufTy).Contents (Elt F)),
    StableHlo.unary main_v5_2 main_while0b_v36 (broadcastInDim S8x256 ![] bcast_S_S8x256 : (⟨S_, .f32⟩ : BufTy).Contents (Elt F) → (⟨S8x256, .f32⟩ : BufTy).Contents (Elt F)),
    StableHlo.binary main_while0b_v36 main_v5_4 main_while0b_v37 (mulf : (⟨S8x256, .f32⟩ : BufTy).Contents (Elt F) → (⟨S8x256, .f32⟩ : BufTy).Contents (Elt F) → (⟨S8x256, .f32⟩ : BufTy).Contents (Elt F)),
    StableHlo.binary main_while0b_v35 main_while0b_v37 main_while0b_v38 (addf : (⟨S8x256, .f32⟩ : BufTy).Contents (Elt F) → (⟨S8x256, .f32⟩ : BufTy).Contents (Elt F) → (⟨S8x256, .f32⟩ : BufTy).Contents (Elt F)) ]
/-- `step0` touches TensorCore references only. -/
theorem step0_sub : (step0 : List (HloOp τ sig (Elt F))).Forall fun op => op.bufs ⊆ tcRefs τ sig :=
  ⟨unary_bufs_sub .., binary_bufs_sub .., unary_bufs_sub .., binary_bufs_sub .., binary_bufs_sub ..⟩
/-- `step0` allocates no buffer. -/
theorem step0_fresh : (step0 : List (HloOp τ sig (Elt F))).Forall fun op => op.fresh = ∅ :=
  forall_fresh_of_map rfl
/-- The references `step0` writes. -/
abbrev step0_W : List (Ref sig .tc) := [main_while0b_v34, main_while0b_v35, main_while0b_v36, main_while0b_v37, main_while0b_v38]
/-- `step0` writes those references only. -/
theorem step0_writes : (step0 : List (HloOp τ sig (Elt F))).Forall fun op => op.writes ⊆ (step0_W.map (Proc.devRef (τ := τ) .tc)).toFinset :=
  forall_writes_sub_of_map rfl

/-- The first loop's write of the new average into the result, in order. -/
abbrev write0 : List (HloOp τ sig (Elt F)) :=
  [ StableHlo.TRef.unary (.of main_while0b_v38 : StableHlo.TRef sig ⟨S8x256, .f32⟩) (.of main_while0b_call1_v0 : StableHlo.TRef sig ⟨S1x8x256, .f32⟩) (broadcastInDim S1x8x256 ![1, 2] bcast_S8x256_S1x8x256_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v5_5 : StableHlo.TRef sig ⟨S16384x8x256, .f32⟩) (.of main_while0b_call1_v0 : StableHlo.TRef sig ⟨S1x8x256, .f32⟩) ![(.of main_v5_3 : StableHlo.TRef sig ⟨S_, .i32⟩), (.of main_while0b_call1_c : StableHlo.TRef sig ⟨S_, .i32⟩), (.of main_while0b_call1_c_0 : StableHlo.TRef sig ⟨S_, .i32⟩)] (.of main_while0b_v39 : StableHlo.TRef sig ⟨S16384x8x256, .f32⟩) (fun x u i => Host.dynamicUpdateSlice x u (fun k => (i k (Shape.Idx.first h_S_)).toInt) updateFits_S16384x8x256_S1x8x256) ]
/-- `write0` touches TensorCore references only. -/
theorem write0_sub : (write0 : List (HloOp τ sig (Elt F))).Forall fun op => op.bufs ⊆ tcRefs τ sig :=
  ⟨unary_bufs_sub .., nullary_bufs_sub .., nullary_bufs_sub .., binaryIndexed_bufs_sub ..⟩
/-- `write0` allocates no buffer. -/
theorem write0_fresh : (write0 : List (HloOp τ sig (Elt F))).Forall fun op => op.fresh = ∅ :=
  forall_fresh_of_map rfl
/-- The references `write0` writes. -/
abbrev write0_W : List (Ref sig .tc) := [main_while0b_call1_v0, main_while0b_call1_c, main_while0b_call1_c_0, main_while0b_v39]
/-- `write0` writes those references only. -/
theorem write0_writes : (write0 : List (HloOp τ sig (Elt F))).Forall fun op => op.writes ⊆ (write0_W.map (Proc.devRef (τ := τ) .tc)).toFinset :=
  forall_writes_sub_of_map rfl

/-- The first loop's counter and carried values, in order. -/
abbrev carry0 : List (HloOp τ sig (Elt F)) :=
  [ StableHlo.nullary main_while0b_c_14 (constantI S_ 32 1#32),
    StableHlo.binary main_v5_3 main_while0b_c_14 main_while0b_v40 (addi : (⟨S_, .i32⟩ : BufTy).Contents (Elt F) → (⟨S_, .i32⟩ : BufTy).Contents (Elt F) → (⟨S_, .i32⟩ : BufTy).Contents (Elt F)),
    StableHlo.unary main_while0b_v40 main_v5_3 id,
    StableHlo.unary main_while0b_v38 main_v5_4 id,
    StableHlo.unary main_while0b_v39 main_v5_5 id ]
/-- `carry0` touches TensorCore references only. -/
theorem carry0_sub : (carry0 : List (HloOp τ sig (Elt F))).Forall fun op => op.bufs ⊆ tcRefs τ sig :=
  ⟨nullary_bufs_sub .., binary_bufs_sub .., unary_bufs_sub .., unary_bufs_sub .., unary_bufs_sub ..⟩
/-- `carry0` allocates no buffer. -/
theorem carry0_fresh : (carry0 : List (HloOp τ sig (Elt F))).Forall fun op => op.fresh = ∅ :=
  forall_fresh_of_map rfl
/-- The references `carry0` writes. -/
abbrev carry0_W : List (Ref sig .tc) := [main_while0b_c_14, main_while0b_v40, main_v5_3, main_v5_4, main_v5_5]
/-- `carry0` writes those references only. -/
theorem carry0_writes : (carry0 : List (HloOp τ sig (Elt F))).Forall fun op => op.writes ⊆ (carry0_W.map (Proc.devRef (τ := τ) .tc)).toFinset :=
  forall_writes_sub_of_map rfl

/-- The first loop's condition, in order. -/
abbrev cond0 : List (HloOp τ sig (Elt F)) :=
  [ StableHlo.nullary main_while0c_c_14 (constantI S_ 32 16384#32),
    StableHlo.binary main_v5_3 main_while0c_c_14 main_while0c_v33 (cmpi .slt) ]
/-- `cond0` touches TensorCore references only. -/
theorem cond0_sub : (cond0 : List (HloOp τ sig (Elt F))).Forall fun op => op.bufs ⊆ tcRefs τ sig :=
  ⟨nullary_bufs_sub .., binary_bufs_sub ..⟩
/-- `cond0` allocates no buffer. -/
theorem cond0_fresh : (cond0 : List (HloOp τ sig (Elt F))).Forall fun op => op.fresh = ∅ :=
  forall_fresh_of_map rfl
/-- The references `cond0` writes. -/
abbrev cond0_W : List (Ref sig .tc) := [main_while0c_c_14, main_while0c_v33]
/-- `cond0` writes those references only. -/
theorem cond0_writes : (cond0 : List (HloOp τ sig (Elt F))).Forall fun op => op.writes ⊆ (cond0_W.map (Proc.devRef (τ := τ) .tc)).toFinset :=
  forall_writes_sub_of_map rfl

/-- The second loop's read of the current sample, in order. -/
abbrev read1 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v17_0 : StableHlo.TRef sig ⟨S16384x8x256, .f32⟩) ![(.of main_v17_3 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x8x256, .f32⟩) (fun x i => Host.dynamicSlice S1x8x256 x (fun k => (i k (Shape.Idx.first h_S_)).toInt) sliceFits_S16384x8x256_S1x8x256),
    StableHlo.TRef.reshape (.of main_while1b_call2_v0 : StableHlo.TRef sig ⟨S1x8x256, .f32⟩) (.of main_while1b_v33 : StableHlo.TRef sig ⟨S8x256, .f32⟩) (rfl : (.f32 : EltTy) = .f32) shapeCasts_S1x8x256_S8x256 ]
/-- `read1` touches TensorCore references only. -/
theorem read1_sub : (read1 : List (HloOp τ sig (Elt F))).Forall fun op => op.bufs ⊆ tcRefs τ sig :=
  ⟨nullary_bufs_sub .., nullary_bufs_sub .., unaryIndexed_bufs_sub .., reshape_bufs_sub ..⟩
/-- `read1` allocates no buffer. -/
theorem read1_fresh : (read1 : List (HloOp τ sig (Elt F))).Forall fun op => op.fresh = ∅ :=
  forall_fresh_of_map rfl
/-- The references `read1` writes. -/
abbrev read1_W : List (Ref sig .tc) := [main_while1b_call2_c, main_while1b_call2_c_0, main_while1b_call2_v0, main_while1b_v33]
/-- `read1` writes those references only. -/
theorem read1_writes : (read1 : List (HloOp τ sig (Elt F))).Forall fun op => op.writes ⊆ (read1_W.map (Proc.devRef (τ := τ) .tc)).toFinset :=
  forall_writes_sub_of_map rfl

/-- The second loop's one step of the average, in order. -/
abbrev step1 : List (HloOp τ sig (Elt F)) :=
  [ StableHlo.unary main_v17_1 main_while1b_v34 (broadcastInDim S8x256 ![] bcast_S_S8x256 : (⟨S_, .f32⟩ : BufTy).Contents (Elt F) → (⟨S8x256, .f32⟩ : BufTy).Contents (Elt F)),
    StableHlo.binary main_while1b_v34 main_while1b_v33 main_while1b_v35 (mulf : (⟨S8x256, .f32⟩ : BufTy).Contents (Elt F) → (⟨S8x256, .f32⟩ : BufTy).Contents (Elt F) → (⟨S8x256, .f32⟩ : BufTy).Contents (Elt F)),
    StableHlo.unary main_v17_2 main_while1b_v36 (broadcastInDim S8x256 ![] bcast_S_S8x256 : (⟨S_, .f32⟩ : BufTy).Contents (Elt F) → (⟨S8x256, .f32⟩ : BufTy).Contents (Elt F)),
    StableHlo.binary main_while1b_v36 main_v17_4 main_while1b_v37 (mulf : (⟨S8x256, .f32⟩ : BufTy).Contents (Elt F) → (⟨S8x256, .f32⟩ : BufTy).Contents (Elt F) → (⟨S8x256, .f32⟩ : BufTy).Contents (Elt F)),
    StableHlo.binary main_while1b_v35 main_while1b_v37 main_while1b_v38 (addf : (⟨S8x256, .f32⟩ : BufTy).Contents (Elt F) → (⟨S8x256, .f32⟩ : BufTy).Contents (Elt F) → (⟨S8x256, .f32⟩ : BufTy).Contents (Elt F)) ]
/-- `step1` touches TensorCore references only. -/
theorem step1_sub : (step1 : List (HloOp τ sig (Elt F))).Forall fun op => op.bufs ⊆ tcRefs τ sig :=
  ⟨unary_bufs_sub .., binary_bufs_sub .., unary_bufs_sub .., binary_bufs_sub .., binary_bufs_sub ..⟩
/-- `step1` allocates no buffer. -/
theorem step1_fresh : (step1 : List (HloOp τ sig (Elt F))).Forall fun op => op.fresh = ∅ :=
  forall_fresh_of_map rfl
/-- The references `step1` writes. -/
abbrev step1_W : List (Ref sig .tc) := [main_while1b_v34, main_while1b_v35, main_while1b_v36, main_while1b_v37, main_while1b_v38]
/-- `step1` writes those references only. -/
theorem step1_writes : (step1 : List (HloOp τ sig (Elt F))).Forall fun op => op.writes ⊆ (step1_W.map (Proc.devRef (τ := τ) .tc)).toFinset :=
  forall_writes_sub_of_map rfl

/-- The second loop's write of the new average into the result, in order. -/
abbrev write1 : List (HloOp τ sig (Elt F)) :=
  [ StableHlo.TRef.unary (.of main_while1b_v38 : StableHlo.TRef sig ⟨S8x256, .f32⟩) (.of main_while1b_call3_v0 : StableHlo.TRef sig ⟨S1x8x256, .f32⟩) (broadcastInDim S1x8x256 ![1, 2] bcast_S8x256_S1x8x256_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v17_5 : StableHlo.TRef sig ⟨S16384x8x256, .f32⟩) (.of main_while1b_call3_v0 : StableHlo.TRef sig ⟨S1x8x256, .f32⟩) ![(.of main_v17_3 : StableHlo.TRef sig ⟨S_, .i32⟩), (.of main_while1b_call3_c : StableHlo.TRef sig ⟨S_, .i32⟩), (.of main_while1b_call3_c_0 : StableHlo.TRef sig ⟨S_, .i32⟩)] (.of main_while1b_v39 : StableHlo.TRef sig ⟨S16384x8x256, .f32⟩) (fun x u i => Host.dynamicUpdateSlice x u (fun k => (i k (Shape.Idx.first h_S_)).toInt) updateFits_S16384x8x256_S1x8x256) ]
/-- `write1` touches TensorCore references only. -/
theorem write1_sub : (write1 : List (HloOp τ sig (Elt F))).Forall fun op => op.bufs ⊆ tcRefs τ sig :=
  ⟨unary_bufs_sub .., nullary_bufs_sub .., nullary_bufs_sub .., binaryIndexed_bufs_sub ..⟩
/-- `write1` allocates no buffer. -/
theorem write1_fresh : (write1 : List (HloOp τ sig (Elt F))).Forall fun op => op.fresh = ∅ :=
  forall_fresh_of_map rfl
/-- The references `write1` writes. -/
abbrev write1_W : List (Ref sig .tc) := [main_while1b_call3_v0, main_while1b_call3_c, main_while1b_call3_c_0, main_while1b_v39]
/-- `write1` writes those references only. -/
theorem write1_writes : (write1 : List (HloOp τ sig (Elt F))).Forall fun op => op.writes ⊆ (write1_W.map (Proc.devRef (τ := τ) .tc)).toFinset :=
  forall_writes_sub_of_map rfl

/-- The second loop's counter and carried values, in order. -/
abbrev carry1 : List (HloOp τ sig (Elt F)) :=
  [ StableHlo.nullary main_while1b_c_14 (constantI S_ 32 1#32),
    StableHlo.binary main_v17_3 main_while1b_c_14 main_while1b_v40 (addi : (⟨S_, .i32⟩ : BufTy).Contents (Elt F) → (⟨S_, .i32⟩ : BufTy).Contents (Elt F) → (⟨S_, .i32⟩ : BufTy).Contents (Elt F)),
    StableHlo.unary main_while1b_v40 main_v17_3 id,
    StableHlo.unary main_while1b_v38 main_v17_4 id,
    StableHlo.unary main_while1b_v39 main_v17_5 id ]
/-- `carry1` touches TensorCore references only. -/
theorem carry1_sub : (carry1 : List (HloOp τ sig (Elt F))).Forall fun op => op.bufs ⊆ tcRefs τ sig :=
  ⟨nullary_bufs_sub .., binary_bufs_sub .., unary_bufs_sub .., unary_bufs_sub .., unary_bufs_sub ..⟩
/-- `carry1` allocates no buffer. -/
theorem carry1_fresh : (carry1 : List (HloOp τ sig (Elt F))).Forall fun op => op.fresh = ∅ :=
  forall_fresh_of_map rfl
/-- The references `carry1` writes. -/
abbrev carry1_W : List (Ref sig .tc) := [main_while1b_c_14, main_while1b_v40, main_v17_3, main_v17_4, main_v17_5]
/-- `carry1` writes those references only. -/
theorem carry1_writes : (carry1 : List (HloOp τ sig (Elt F))).Forall fun op => op.writes ⊆ (carry1_W.map (Proc.devRef (τ := τ) .tc)).toFinset :=
  forall_writes_sub_of_map rfl

/-- The second loop's condition, in order. -/
abbrev cond1 : List (HloOp τ sig (Elt F)) :=
  [ StableHlo.nullary main_while1c_c_14 (constantI S_ 32 16384#32),
    StableHlo.binary main_v17_3 main_while1c_c_14 main_while1c_v33 (cmpi .slt) ]
/-- `cond1` touches TensorCore references only. -/
theorem cond1_sub : (cond1 : List (HloOp τ sig (Elt F))).Forall fun op => op.bufs ⊆ tcRefs τ sig :=
  ⟨nullary_bufs_sub .., binary_bufs_sub ..⟩
/-- `cond1` allocates no buffer. -/
theorem cond1_fresh : (cond1 : List (HloOp τ sig (Elt F))).Forall fun op => op.fresh = ∅ :=
  forall_fresh_of_map rfl
/-- The references `cond1` writes. -/
abbrev cond1_W : List (Ref sig .tc) := [main_while1c_c_14, main_while1c_v33]
/-- `cond1` writes those references only. -/
theorem cond1_writes : (cond1 : List (HloOp τ sig (Elt F))).Forall fun op => op.writes ⊆ (cond1_W.map (Proc.devRef (τ := τ) .tc)).toFinset :=
  forall_writes_sub_of_map rfl

/-- Main is its three stretches with the two loops between them. -/
theorem main_chain (c : Dev nD) : main (F := F) c = (Pipeline.chain
    [ seq preOps, HostLoop.enter 0, seq midOps, HostLoop.enter 1, seq postOps ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

/-- The first loop's body is its four stretches. -/
theorem body0_chain : main_while0_body (F := F) = (Pipeline.chain
    [ seq read0, seq step0, seq write0, seq carry0 ] : Prog (TpuEff nD τ sig (Elt F) (HostLoop.Sig (Pipeline.Sig Λ₀ (Fin 0) fun p => (pcfgs (F := F) p).Adm) 2) .tc) PUnit) := by
  rewrite [Pipeline.chain_cons, chain_seq_cons, Pipeline.chain_cons, chain_seq_cons]
  chain_rfl

/-- The stretches of the first loop's body. -/
abbrev body0 : List (List (HloOp τ sig (Elt F))) := [read0, step0, write0, carry0]
/-- They are plain: TensorCore references only, no allocation. -/
theorem body0_plain : Plain (body0 (F := F)) :=
  .cons read0_sub (hf := List.forall_iff_forall_mem.mp read0_fresh) (.cons step0_sub (hf := List.forall_iff_forall_mem.mp step0_fresh)
    (.cons write0_sub (hf := List.forall_iff_forall_mem.mp write0_fresh) (.cons carry0_sub (hf := List.forall_iff_forall_mem.mp carry0_fresh) .nil)))

/-- The second loop's body is its four stretches. -/
theorem body1_chain : main_while1_body (F := F) = (Pipeline.chain
    [ seq read1, seq step1, seq write1, seq carry1 ] : Prog (TpuEff nD τ sig (Elt F) (HostLoop.Sig (Pipeline.Sig Λ₀ (Fin 0) fun p => (pcfgs (F := F) p).Adm) 2) .tc) PUnit) := by
  rewrite [Pipeline.chain_cons, chain_seq_cons, Pipeline.chain_cons, chain_seq_cons]
  chain_rfl

/-- The stretches of the second loop's body. -/
abbrev body1 : List (List (HloOp τ sig (Elt F))) := [read1, step1, write1, carry1]
/-- They are plain: TensorCore references only, no allocation. -/
theorem body1_plain : Plain (body1 (F := F)) :=
  .cons read1_sub (hf := List.forall_iff_forall_mem.mp read1_fresh) (.cons step1_sub (hf := List.forall_iff_forall_mem.mp step1_fresh)
    (.cons write1_sub (hf := List.forall_iff_forall_mem.mp write1_fresh) (.cons carry1_sub (hf := List.forall_iff_forall_mem.mp carry1_fresh) .nil)))

/-- `preOps` is plain. -/
theorem pre_plain : Plain [preOps (F := F)] := .cons preOps_sub (hf := List.forall_iff_forall_mem.mp preOps_fresh) .nil
/-- `midOps` is plain. -/
theorem mid_plain : Plain [midOps (F := F)] := .cons midOps_sub (hf := List.forall_iff_forall_mem.mp midOps_fresh) .nil
/-- `postOps` is plain. -/
theorem post_plain : Plain [postOps (F := F)] := .cons postOps_sub (hf := List.forall_iff_forall_mem.mp postOps_fresh) .nil

end Cert.RefRun

end
-- ==== Proof.RefRun.lean ====
/- The run of the reference: main's three stretches of host operations with two counted loops of 16384 trips between
   them. Each loop's counter holds the trip's number, so its condition holds exactly for the first 16384 trips; hence the
   whole run ends, every counter of the machine is zero, and every buffer holds the fold of the operation lists. -/
module

public import proofs.«01_k».proof.Proof.RefOps
public import Idealize.ShloMosaic.Lib.Scf.ExitTest
public import Idealize.ShloMosaic.Lib.Scf.Counter

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]
variable (m : (ℓ : Loc nD τ sig) → Buf (Elt F) ℓ) (ρ : Dev nD → PrngReg)

/-! ## The counters -/

/-- Every buffer before the `k`-th test of the first loop, from the contents `W` at its entry. -/
abbrev at0 (W : Dev nD → Valuation τ sig (Elt F)) (k : ℕ) (c : Dev nD) : Valuation τ sig (Elt F) := atTrip cond0 body0 W k c
/-- Every buffer before the `k`-th test of the second loop, from the contents `W` at its entry. -/
abbrev at1 (W : Dev nD → Valuation τ sig (Elt F)) (k : ℕ) (c : Dev nD) : Valuation τ sig (Elt F) := atTrip cond1 body1 W k c

set_option maxRecDepth 100000 in
/-- The last stretch of the first loop's body adds one to the counter. -/
theorem carry0_ctr (X : Valuation τ sig (Elt F)) :
    after carry0 X (Proc.devRef .tc main_v5_3) = addi (X (Proc.devRef .tc main_v5_3)) (constantI S_ 32 1#32) := by
  after_results
  rfl

set_option maxRecDepth 100000 in
/-- The last stretch of the second loop's body adds one to the counter. -/
theorem carry1_ctr (X : Valuation τ sig (Elt F)) :
    after carry1 X (Proc.devRef .tc main_v17_3) = addi (X (Proc.devRef .tc main_v17_3)) (constantI S_ 32 1#32) := by
  after_results
  rfl

/-- The first loop's counter before the `k`-th test is `k`, if it is zero at the entry. -/
theorem at0_ctr (W : Dev nD → Valuation τ sig (Elt F)) (c : Dev nD) (h : W c (Proc.devRef .tc main_v5_3) = fun _ => (0#32 : BitVec 32)) :
    ∀ k, at0 W k c (Proc.devRef .tc main_v5_3) = fun _ => Scf.iv 0#32 1#32 k
  | 0 => by rw [show at0 W 0 c = W c from rfl, h, Scf.iv_zero]
  | k + 1 => by
    rw [show at0 W (k + 1) c = after carry0 (after write0 (after step0 (after read0 (after cond0 (at0 W k c))))) from rfl, carry0_ctr,
      after_of_writes_sub write0 _ write0_writes (by decide +kernel), after_of_writes_sub step0 _ step0_writes (by decide +kernel),
      after_of_writes_sub read0 _ read0_writes (by decide +kernel), after_of_writes_sub cond0 _ cond0_writes (by decide +kernel),
      at0_ctr W c h k, Scf.iv_succ]
    rfl

/-- The second loop's counter before the `k`-th test is `k`, if it is zero at the entry. -/
theorem at1_ctr (W : Dev nD → Valuation τ sig (Elt F)) (c : Dev nD) (h : W c (Proc.devRef .tc main_v17_3) = fun _ => (0#32 : BitVec 32)) :
    ∀ k, at1 W k c (Proc.devRef .tc main_v17_3) = fun _ => Scf.iv 0#32 1#32 k
  | 0 => by rw [show at1 W 0 c = W c from rfl, h, Scf.iv_zero]
  | k + 1 => by
    rw [show at1 W (k + 1) c = after carry1 (after write1 (after step1 (after read1 (after cond1 (at1 W k c))))) from rfl, carry1_ctr,
      after_of_writes_sub write1 _ write1_writes (by decide +kernel), after_of_writes_sub step1 _ step1_writes (by decide +kernel),
      after_of_writes_sub read1 _ read1_writes (by decide +kernel), after_of_writes_sub cond1 _ cond1_writes (by decide +kernel),
      at1_ctr W c h k, Scf.iv_succ]
    rfl

/-! ## The conditions -/

set_option backward.isDefEq.respectTransparency.types false in
/-- The first loop goes round exactly 16384 times, if its counter is zero at the entry. -/
theorem cond0_spec (W : Dev nD → Valuation τ sig (Elt F)) (h : ∀ c, W c (Proc.devRef .tc main_v5_3) = fun _ => (0#32 : BitVec 32)) :
    CondSpec (pcfgs (F := F)) defs₀ loops (main_while0_cond (F := F)) cond0 body0 W 16384 := by
  intro k hk c bd
  have hctr := at0_ctr W c (h c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 W k c) main_v5_3 HostLoop.idx0)
        (HloOp.result _ (at0 W k c) main_while0c_c_14 HostLoop.idx0) = 1#1) (k < 16384)
    rw [nullary_result_ne _ _ _ _ (by decide), nullary_result, hctr]
    exact Scf.cmpi_slt_iv_ub_iff (lb := 0#32) (ub := 16384#32) (st := 1#32) (by decide) (show k ≤ Scf.trips 0#32 16384#32 1#32 from hk)
  isplitl [Hb]; · iexact Hb
  rw [after_cons, after_cons, after_nil]; iexact Hh

set_option backward.isDefEq.respectTransparency.types false in
/-- The second loop goes round exactly 16384 times, if its counter is zero at the entry. -/
theorem cond1_spec (W : Dev nD → Valuation τ sig (Elt F)) (h : ∀ c, W c (Proc.devRef .tc main_v17_3) = fun _ => (0#32 : BitVec 32)) :
    CondSpec (pcfgs (F := F)) defs₀ loops (main_while1_cond (F := F)) cond1 body1 W 16384 := by
  intro k hk c bd
  have hctr := at1_ctr W c (h c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 W k c) main_v17_3 HostLoop.idx0)
        (HloOp.result _ (at1 W k c) main_while1c_c_14 HostLoop.idx0) = 1#1) (k < 16384)
    rw [nullary_result_ne _ _ _ _ (by decide), nullary_result, hctr]
    exact Scf.cmpi_slt_iv_ub_iff (lb := 0#32) (ub := 16384#32) (st := 1#32) (by decide) (show k ≤ Scf.trips 0#32 16384#32 1#32 from hk)
  isplitl [Hb]; · iexact Hb
  rw [after_cons, after_cons, after_nil]; iexact Hh

/-! ## The contents at each stage -/

/-- The buffers at the first loop's entry. -/
abbrev entry0 (c : Dev nD) : Valuation τ sig (Elt F) := after preOps (launchContents m c)
/-- The buffers at the first loop's exit. -/
abbrev exit0 (c : Dev nD) : Valuation τ sig (Elt F) := after cond0 (at0 (entry0 m) 16384 c)
/-- The buffers at the second loop's entry. -/
abbrev entry1 (c : Dev nD) : Valuation τ sig (Elt F) := after midOps (exit0 m c)
/-- The buffers at the second loop's exit. -/
abbrev exit1 (c : Dev nD) : Valuation τ sig (Elt F) := after cond1 (at1 (entry1 m) 16384 c)
/-- The buffers at the end. -/
abbrev final (c : Dev nD) : Valuation τ sig (Elt F) := after postOps (exit1 m c)

/-- The first counter starts at zero. -/
theorem entry0_ctr (c : Dev nD) : entry0 m c (Proc.devRef .tc main_v5_3) = fun _ => (0#32 : BitVec 32) := by
  unfold entry0
  after_reads_simp
  rfl

/-- The second counter starts at zero. -/
theorem entry1_ctr (c : Dev nD) : entry1 m c (Proc.devRef .tc main_v17_3) = fun _ => (0#32 : BitVec 32) := by
  unfold entry1
  generalize exit0 m c = V
  after_reads_simp
  rfl

/-! ## The run -/

local notation "𝕄" => MT nD τ sig Unit (Elt F) ℕ (Option PUnit) ℕ

/-- There is no pipeline to admit. -/
abbrev noAdm : (p : Fin 0) → (pcfgs (F := F) p).Adm := fun p => p.elim0
/-- There is no ticket. -/
abbrev noTk : Fin 0 → Pipeline.Ticket (Ix := Unit) (Name := ℕ) (U := Option PUnit) (Lvl := ℕ) (nD := nD) (τ := τ) (pcfgs (F := F)) noAdm := fun j => j.elim0
/-- No cell carries a level. -/
abbrev noL : GSem nD τ sig → Finset Unit := fun _ => ∅
/-- The levels, of none. -/
abbrev noLv : GSem nD τ sig → Unit → ℕ := fun _ _ => 0
/-- What rides along beside the buffers: the core owes nothing. -/
abbrev owesNone (c : Dev nD) : sProp 𝕄 := iprop(∃ W, owes (c : Thread nD τ) (0 : CellTallies nD τ sig Unit) W)

/-- A condition's specification with the core's debts carried through it. -/
theorem loopCond_of {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops owesNone cond condOps bodyI W₀ n := by
  intro k hk c bd
  have hc := hcond k hk c bd
  have hv : ∀ v : Elt F .i1,
      iprop(iprop(⌜v = 1#1 ↔ k < n⌝ ∗ boundary (c : Thread nD τ) ∗ held (c : Thread nD τ) (ucRefs τ sig) (after condOps (atTrip condOps bodyI W₀ k c))) ∗ owesNone c)
        ⊢ iprop(⌜v = 1#1 ↔ k < n⌝ ∗ boundary (c : Thread nD τ) ∗ held (c : Thread nD τ) (ucRefs τ sig) (after condOps (atTrip condOps bodyI W₀ k c)) ∗ owesNone c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hv))
  iintro ⟨Hbd, Hh, HR⟩
  isplitl [Hbd Hh]; · isplitl [Hbd] <;> iassumption
  iexact HR

/-- The reference's segments in order: stretch, loop, stretch, loop, stretch. -/
def segs : List (CSeg (Ix := Unit) (Name := ℕ) (U := Option PUnit) (Lvl := ℕ) (pcfgs (F := F)) noAdm defs₀ Variants.none noL noLv loops noTk) :=
  segsOf _ _ _ _ _ _ _ _ owesNone [preOps] pre_plain (launchContents m)
    ++ (loopSeg _ _ _ _ _ _ _ _ 0 main_while0_cond main_while0_body rfl cond0 body0 body0_plain (by rw [body0_chain]; rfl) 16384 (entry0 m) owesNone
          (loopCond_of (cond0_spec _ (entry0_ctr m)))
        :: (segsOf _ _ _ _ _ _ _ _ owesNone [midOps] mid_plain (exit0 m)
          ++ (loopSeg _ _ _ _ _ _ _ _ 1 main_while1_cond main_while1_body rfl cond1 body1 body1_plain (by rw [body1_chain]; rfl) 16384 (entry1 m) owesNone
                (loopCond_of (cond1_spec _ (entry1_ctr m)))
              :: segsOf _ _ _ _ _ _ _ _ owesNone [postOps] post_plain (exit1 m))))

/-- The segments are main's items. -/
theorem segs_prog (c : Dev nD) : Pipeline.chain ((segs m).map CSeg.prog) = main (F := F) c := by
  rw [main_chain]
  unfold segs
  rw [List.map_append, List.map_cons, List.map_append, List.map_cons, segsOf_prog, segsOf_prog, segsOf_prog]
  rfl

/-- The segments run from the buffers at the launch to the buffers at the end. -/
theorem segs_chains :
    CSeg.Chains (fun c => iprop(held (c : Thread nD τ) (ucRefs τ sig) (launchContents m c) ∗ owesNone c)) (segs m)
      (fun c => iprop(held (c : Thread nD τ) (ucRefs τ sig) (final m c) ∗ owesNone c)) := by
  unfold segs
  exact CSeg.Chains.append (segsOf_chains _ _ _ _ _ _ _ _ owesNone [preOps] pre_plain _)
    ⟨fun _ => .rfl, CSeg.Chains.append (segsOf_chains _ _ _ _ _ _ _ _ owesNone [midOps] mid_plain _)
      ⟨fun _ => .rfl, segsOf_chains _ _ _ _ _ _ _ _ owesNone [postOps] post_plain _⟩⟩

set_option maxRecDepth 100000 in
/-- From any memory with zero counters the reference ends, every buffer of a value at the fold and every counter zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (segs m)
    (fun c Q => by
      show wp _ _ _ (Pipeline.chain ((segs m).map CSeg.prog)) Q ⊢ _
      rw [segs_prog m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owesNone c))
    (Tₙ := fun c => iprop(held (c : Thread nD τ) (ucRefs τ sig) (final m c)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h _ => ⟨fun c b hb => h c _ (devRef_mem_ucRefs b hb), funext fun g => match g with
      | (_, .reg s) => absurd s.isLt (Nat.not_lt_zero _)
      | (_, .dma s) => absurd s.isLt (Nat.not_lt_zero _)⟩)

/-! ## The arguments -/

/-- Nothing writes an argument: one that no list writes ends as it started. -/
theorem final_keep (c : Dev nD) (b : Ref sig .tc) (h : b ∉ preOps_W ++ midOps_W ++ postOps_W ++ (cond0_W ++ read0_W ++ step0_W ++ write0_W ++ carry0_W)
      ++ (cond1_W ++ read1_W ++ step1_W ++ write1_W ++ carry1_W)) :
    final m c (Proc.devRef .tc b) = m ((c.tc : Thread nD τ).loc b) := by
  simp only [List.mem_append, not_or] at h
  obtain ⟨⟨⟨⟨h1, h2⟩, h3⟩, ⟨⟨⟨h4, h5⟩, h6⟩, h7⟩, h8⟩, ⟨⟨⟨h9, h10⟩, h11⟩, h12⟩, h13⟩ := h
  have l0 : ∀ k, at0 (entry0 m) k c (Proc.devRef .tc b) = entry0 m c (Proc.devRef .tc b) := fun k => by
    induction k with
    | zero => rfl
    | succ k ih =>
      rw [show at0 (entry0 m) (k + 1) c = after carry0 (after write0 (after step0 (after read0 (after cond0 (at0 (entry0 m) k c))))) from rfl,
        after_of_writes_sub carry0 _ carry0_writes h8, after_of_writes_sub write0 _ write0_writes h7, after_of_writes_sub step0 _ step0_writes h6,
        after_of_writes_sub read0 _ read0_writes h5, after_of_writes_sub cond0 _ cond0_writes h4, ih]
  have l1 : ∀ k, at1 (entry1 m) k c (Proc.devRef .tc b) = entry1 m c (Proc.devRef .tc b) := fun k => by
    induction k with
    | zero => rfl
    | succ k ih =>
      rw [show at1 (entry1 m) (k + 1) c = after carry1 (after write1 (after step1 (after read1 (after cond1 (at1 (entry1 m) k c))))) from rfl,
        after_of_writes_sub carry1 _ carry1_writes h13, after_of_writes_sub write1 _ write1_writes h12, after_of_writes_sub step1 _ step1_writes h11,
        after_of_writes_sub read1 _ read1_writes h10, after_of_writes_sub cond1 _ cond1_writes h9, ih]
  unfold final exit1
  rw [after_of_writes_sub postOps _ postOps_writes h3, after_of_writes_sub cond1 _ cond1_writes h9, l1]
  unfold entry1 exit0
  rw [after_of_writes_sub midOps _ midOps_writes h2, after_of_writes_sub cond0 _ cond0_writes h4, l0]
  unfold entry0
  rw [after_of_writes_sub preOps _ preOps_writes h1]

end Cert.RefRun

end
-- ==== Proof.RefTrips.lean ====
/- One trip of each of the reference's loops over the extended reals: what it carries on, what it files, and what it keeps. -/
module

public import proofs.«01_k».proof.Proof.RefRun
public import proofs.«01_k».proof.Proof.Ema
public import Idealize.ShloMosaic.Lib.Pointwise

@[expose] public section

noncomputable section

namespace Cert.RefValue

open Cert.ReferenceIdeal Cert.ReferenceIdeal.Gen Cert.RefRun Cert.Ema
open Idealize.ShloMosaic Idealize.ShloMosaic.TcCoe Idealize.ShloMosaic.Tactic
open Idealize.SL Idealize.SL.Sem
open Idealize.ShloMosaic.StableHlo

/-- The sample of time `t` at batch `b` and channel `c` of an array with the time in front; zero past its end. -/
def timeFirst (X : S16384x8x256.Idx → EReal) (b : Fin 8) (c : Fin 256) (t : ℕ) : EReal :=
  if h : t < 16384 then X (ix3 ⟨t, h⟩ b c) else 0

/-! ## The first loop -/

section
variable (X : Valuation τ sig (Elt Ideal))

set_option maxRecDepth 100000 in
/-- The first loop's read: the samples at the counter's time. -/
theorem read0_value : after read0 X (Proc.devRef .tc main_while0b_v33)
    = shapeCast S8x256 (Host.dynamicSlice S1x8x256 (X (Proc.devRef .tc main_v5_0)) (fun a => ((![X (Proc.devRef .tc main_v5_3), constantI S_ 32 0#32, constantI S_ 32 0#32] : Fin 3 → (⟨S_, .i32⟩ : BufTy).Contents (Elt Ideal)) a (Shape.Idx.first h_S_)).toInt) sliceFits_S16384x8x256_S1x8x256) shapeCasts_S1x8x256_S8x256 := by
  after_results_entrywise [cast_eq]

set_option maxRecDepth 100000 in
/-- The first loop's step of the average. -/
theorem step0_value : after step0 X (Proc.devRef .tc main_while0b_v38)
    = addf (F := Ideal) (φ := .f32) (mulf (F := Ideal) (φ := .f32) (broadcastInDim S8x256 ![] bcast_S_S8x256 (X (Proc.devRef .tc main_v5_1))) (X (Proc.devRef .tc main_while0b_v33)))
        (mulf (F := Ideal) (φ := .f32) (broadcastInDim S8x256 ![] bcast_S_S8x256 (X (Proc.devRef .tc main_v5_2))) (X (Proc.devRef .tc main_v5_4))) := by
  after_results

set_option maxRecDepth 100000 in
/-- The first loop's write of the average at the counter's time. -/
theorem write0_value : after write0 X (Proc.devRef .tc main_while0b_v39)
    = Host.dynamicUpdateSlice (X (Proc.devRef .tc main_v5_5)) (broadcastInDim S1x8x256 ![1, 2] bcast_S8x256_S1x8x256_1_2 (X (Proc.devRef .tc main_while0b_v38)))
        (fun a => ((![X (Proc.devRef .tc main_v5_3), constantI S_ 32 0#32, constantI S_ 32 0#32] : Fin 3 → (⟨S_, .i32⟩ : BufTy).Contents (Elt Ideal)) a (Shape.Idx.first h_S_)).toInt) updateFits_S16384x8x256_S1x8x256 := by
  after_results_entrywise [cast_eq]

set_option maxRecDepth 100000 in
/-- The first loop's carried average is the step's. -/
theorem carry0_avg : after carry0 X (Proc.devRef .tc main_v5_4) = X (Proc.devRef .tc main_while0b_v38) := by
  after_results
  rfl

set_option maxRecDepth 100000 in
/-- The first loop's carried result is the written one. -/
theorem carry0_out : after carry0 X (Proc.devRef .tc main_v5_5) = X (Proc.devRef .tc main_while0b_v39) := by
  after_results
  rfl
end

section
variable (W : Dev nD → Valuation τ sig (Elt Ideal)) (c : Dev nD)

/-- What the first loop does not write holds its entry's contents at every trip. -/
theorem at0_keep (b : Ref sig .tc) (h : b ∉ cond0_W ++ read0_W ++ step0_W ++ write0_W ++ carry0_W) (k : ℕ) :
    at0 W k c (Proc.devRef .tc b) = W c (Proc.devRef .tc b) := by
  simp only [List.mem_append, not_or] at h
  obtain ⟨⟨⟨⟨h4, h5⟩, h6⟩, h7⟩, h8⟩ := h
  induction k with
  | zero => rfl
  | succ k ih =>
    rw [show at0 W (k + 1) c = after carry0 (after write0 (after step0 (after read0 (after cond0 (at0 W k c))))) from rfl,
      after_of_writes_sub carry0 _ carry0_writes h8, after_of_writes_sub write0 _ write0_writes h7, after_of_writes_sub step0 _ step0_writes h6,
      after_of_writes_sub read0 _ read0_writes h5, after_of_writes_sub cond0 _ cond0_writes h4, ih]

/-- One trip's new average, of the contents before the trip. -/
theorem at0_avg (k : ℕ) (h : W c (Proc.devRef .tc main_v5_3) = fun _ => (0#32 : BitVec 32)) : at0 W (k + 1) c (Proc.devRef .tc main_v5_4)
    = addf (F := Ideal) (φ := .f32) (mulf (F := Ideal) (φ := .f32) (broadcastInDim S8x256 ![] bcast_S_S8x256 (W c (Proc.devRef .tc main_v5_1)))
          (shapeCast S8x256 (Host.dynamicSlice S1x8x256 (W c (Proc.devRef .tc main_v5_0)) (fun a => ((![(fun _ => Scf.iv 0#32 1#32 k), constantI S_ 32 0#32, constantI S_ 32 0#32] : Fin 3 → (⟨S_, .i32⟩ : BufTy).Contents (Elt Ideal)) a (Shape.Idx.first h_S_)).toInt) sliceFits_S16384x8x256_S1x8x256) shapeCasts_S1x8x256_S8x256))
        (mulf (F := Ideal) (φ := .f32) (broadcastInDim S8x256 ![] bcast_S_S8x256 (W c (Proc.devRef .tc main_v5_2))) (at0 W k c (Proc.devRef .tc main_v5_4))) := by
  rw [show at0 W (k + 1) c = after carry0 (after write0 (after step0 (after read0 (after cond0 (at0 W k c))))) from rfl, carry0_avg,
    after_of_writes_sub write0 _ write0_writes (by decide +kernel), step0_value, read0_value,
    after_of_writes_sub read0 _ read0_writes (r := main_v5_1) (by decide +kernel), after_of_writes_sub read0 _ read0_writes (r := main_v5_2) (by decide +kernel),
    after_of_writes_sub read0 _ read0_writes (r := main_v5_4) (by decide +kernel),
    after_of_writes_sub cond0 _ cond0_writes (r := main_v5_0) (by decide +kernel), after_of_writes_sub cond0 _ cond0_writes (r := main_v5_1) (by decide +kernel),
    after_of_writes_sub cond0 _ cond0_writes (r := main_v5_2) (by decide +kernel), after_of_writes_sub cond0 _ cond0_writes (r := main_v5_3) (by decide +kernel),
    after_of_writes_sub cond0 _ cond0_writes (r := main_v5_4) (by decide +kernel),
    at0_ctr W c h k, at0_keep W c main_v5_0 (by decide +kernel), at0_keep W c main_v5_1 (by decide +kernel), at0_keep W c main_v5_2 (by decide +kernel)]
  rfl

/-- One trip's new result, of the new average and the result before the trip. -/
theorem at0_out (k : ℕ) (h : W c (Proc.devRef .tc main_v5_3) = fun _ => (0#32 : BitVec 32)) : at0 W (k + 1) c (Proc.devRef .tc main_v5_5)
    = Host.dynamicUpdateSlice (at0 W k c (Proc.devRef .tc main_v5_5)) (broadcastInDim S1x8x256 ![1, 2] bcast_S8x256_S1x8x256_1_2 (at0 W (k + 1) c (Proc.devRef .tc main_v5_4)))
        (fun a => ((![(fun _ => Scf.iv 0#32 1#32 k), constantI S_ 32 0#32, constantI S_ 32 0#32] : Fin 3 → (⟨S_, .i32⟩ : BufTy).Contents (Elt Ideal)) a (Shape.Idx.first h_S_)).toInt) updateFits_S16384x8x256_S1x8x256 := by
  rw [show at0 W (k + 1) c = after carry0 (after write0 (after step0 (after read0 (after cond0 (at0 W k c))))) from rfl, carry0_avg, carry0_out, write0_value,
    after_of_writes_sub write0 _ write0_writes (r := main_while0b_v38) (by decide +kernel),
    after_of_writes_sub step0 _ step0_writes (r := main_v5_3) (by decide +kernel), after_of_writes_sub step0 _ step0_writes (r := main_v5_5) (by decide +kernel),
    after_of_writes_sub read0 _ read0_writes (r := main_v5_3) (by decide +kernel), after_of_writes_sub read0 _ read0_writes (r := main_v5_5) (by decide +kernel),
    after_of_writes_sub cond0 _ cond0_writes (r := main_v5_3) (by decide +kernel), after_of_writes_sub cond0 _ cond0_writes (r := main_v5_5) (by decide +kernel),
    at0_ctr W c h k]
  rfl
end

/-! ## The second loop -/

section
variable (X : Valuation τ sig (Elt Ideal))

set_option maxRecDepth 100000 in
/-- The second loop's read: the samples at the counter's time. -/
theorem read1_value : after read1 X (Proc.devRef .tc main_while1b_v33)
    = shapeCast S8x256 (Host.dynamicSlice S1x8x256 (X (Proc.devRef .tc main_v17_0)) (fun a => ((![X (Proc.devRef .tc main_v17_3), constantI S_ 32 0#32, constantI S_ 32 0#32] : Fin 3 → (⟨S_, .i32⟩ : BufTy).Contents (Elt Ideal)) a (Shape.Idx.first h_S_)).toInt) sliceFits_S16384x8x256_S1x8x256) shapeCasts_S1x8x256_S8x256 := by
  after_results_entrywise [cast_eq]

set_option maxRecDepth 100000 in
/-- The second loop's step of the average. -/
theorem step1_value : after step1 X (Proc.devRef .tc main_while1b_v38)
    = addf (F := Ideal) (φ := .f32) (mulf (F := Ideal) (φ := .f32) (broadcastInDim S8x256 ![] bcast_S_S8x256 (X (Proc.devRef .tc main_v17_1))) (X (Proc.devRef .tc main_while1b_v33)))
        (mulf (F := Ideal) (φ := .f32) (broadcastInDim S8x256 ![] bcast_S_S8x256 (X (Proc.devRef .tc main_v17_2))) (X (Proc.devRef .tc main_v17_4))) := by
  after_results

set_option maxRecDepth 100000 in
/-- The second loop's write of the average at the counter's time. -/
theorem write1_value : after write1 X (Proc.devRef .tc main_while1b_v39)
    = Host.dynamicUpdateSlice (X (Proc.devRef .tc main_v17_5)) (broadcastInDim S1x8x256 ![1, 2] bcast_S8x256_S1x8x256_1_2 (X (Proc.devRef .tc main_while1b_v38)))
        (fun a => ((![X (Proc.devRef .tc main_v17_3), constantI S_ 32 0#32, constantI S_ 32 0#32] : Fin 3 → (⟨S_, .i32⟩ : BufTy).Contents (Elt Ideal)) a (Shape.Idx.first h_S_)).toInt) updateFits_S16384x8x256_S1x8x256 := by
  after_results_entrywise [cast_eq]

set_option maxRecDepth 100000 in
/-- The second loop's carried average is the step's. -/
theorem carry1_avg : after carry1 X (Proc.devRef .tc main_v17_4) = X (Proc.devRef .tc main_while1b_v38) := by
  after_results
  rfl

set_option maxRecDepth 100000 in
/-- The second loop's carried result is the written one. -/
theorem carry1_out : after carry1 X (Proc.devRef .tc main_v17_5) = X (Proc.devRef .tc main_while1b_v39) := by
  after_results
  rfl
end

section
variable (W : Dev nD → Valuation τ sig (Elt Ideal)) (c : Dev nD)

/-- What the second loop does not write holds its entry's contents at every trip. -/
theorem at1_keep (b : Ref sig .tc) (h : b ∉ cond1_W ++ read1_W ++ step1_W ++ write1_W ++ carry1_W) (k : ℕ) :
    at1 W k c (Proc.devRef .tc b) = W c (Proc.devRef .tc b) := by
  simp only [List.mem_append, not_or] at h
  obtain ⟨⟨⟨⟨h4, h5⟩, h6⟩, h7⟩, h8⟩ := h
  induction k with
  | zero => rfl
  | succ k ih =>
    rw [show at1 W (k + 1) c = after carry1 (after write1 (after step1 (after read1 (after cond1 (at1 W k c))))) from rfl,
      after_of_writes_sub carry1 _ carry1_writes h8, after_of_writes_sub write1 _ write1_writes h7, after_of_writes_sub step1 _ step1_writes h6,
      after_of_writes_sub read1 _ read1_writes h5, after_of_writes_sub cond1 _ cond1_writes h4, ih]

/-- One trip's new average, of the contents before the trip. -/
theorem at1_avg (k : ℕ) (h : W c (Proc.devRef .tc main_v17_3) = fun _ => (0#32 : BitVec 32)) : at1 W (k + 1) c (Proc.devRef .tc main_v17_4)
    = addf (F := Ideal) (φ := .f32) (mulf (F := Ideal) (φ := .f32) (broadcastInDim S8x256 ![] bcast_S_S8x256 (W c (Proc.devRef .tc main_v17_1)))
          (shapeCast S8x256 (Host.dynamicSlice S1x8x256 (W c (Proc.devRef .tc main_v17_0)) (fun a => ((![(fun _ => Scf.iv 0#32 1#32 k), constantI S_ 32 0#32, constantI S_ 32 0#32] : Fin 3 → (⟨S_, .i32⟩ : BufTy).Contents (Elt Ideal)) a (Shape.Idx.first h_S_)).toInt) sliceFits_S16384x8x256_S1x8x256) shapeCasts_S1x8x256_S8x256))
        (mulf (F := Ideal) (φ := .f32) (broadcastInDim S8x256 ![] bcast_S_S8x256 (W c (Proc.devRef .tc main_v17_2))) (at1 W k c (Proc.devRef .tc main_v17_4))) := by
  rw [show at1 W (k + 1) c = after carry1 (after write1 (after step1 (after read1 (after cond1 (at1 W k c))))) from rfl, carry1_avg,
    after_of_writes_sub write1 _ write1_writes (by decide +kernel), step1_value, read1_value,
    after_of_writes_sub read1 _ read1_writes (r := main_v17_1) (by decide +kernel), after_of_writes_sub read1 _ read1_writes (r := main_v17_2) (by decide +kernel),
    after_of_writes_sub read1 _ read1_writes (r := main_v17_4) (by decide +kernel),
    after_of_writes_sub cond1 _ cond1_writes (r := main_v17_0) (by decide +kernel), after_of_writes_sub cond1 _ cond1_writes (r := main_v17_1) (by decide +kernel),
    after_of_writes_sub cond1 _ cond1_writes (r := main_v17_2) (by decide +kernel), after_of_writes_sub cond1 _ cond1_writes (r := main_v17_3) (by decide +kernel),
    after_of_writes_sub cond1 _ cond1_writes (r := main_v17_4) (by decide +kernel),
    at1_ctr W c h k, at1_keep W c main_v17_0 (by decide +kernel), at1_keep W c main_v17_1 (by decide +kernel), at1_keep W c main_v17_2 (by decide +kernel)]
  rfl

/-- One trip's new result, of the new average and the result before the trip. -/
theorem at1_out (k : ℕ) (h : W c (Proc.devRef .tc main_v17_3) = fun _ => (0#32 : BitVec 32)) : at1 W (k + 1) c (Proc.devRef .tc main_v17_5)
    = Host.dynamicUpdateSlice (at1 W k c (Proc.devRef .tc main_v17_5)) (broadcastInDim S1x8x256 ![1, 2] bcast_S8x256_S1x8x256_1_2 (at1 W (k + 1) c (Proc.devRef .tc main_v17_4)))
        (fun a => ((![(fun _ => Scf.iv 0#32 1#32 k), constantI S_ 32 0#32, constantI S_ 32 0#32] : Fin 3 → (⟨S_, .i32⟩ : BufTy).Contents (Elt Ideal)) a (Shape.Idx.first h_S_)).toInt) updateFits_S16384x8x256_S1x8x256 := by
  rw [show at1 W (k + 1) c = after carry1 (after write1 (after step1 (after read1 (after cond1 (at1 W k c))))) from rfl, carry1_avg, carry1_out, write1_value,
    after_of_writes_sub write1 _ write1_writes (r := main_while1b_v38) (by decide +kernel),
    after_of_writes_sub step1 _ step1_writes (r := main_v17_3) (by decide +kernel), after_of_writes_sub step1 _ step1_writes (r := main_v17_5) (by decide +kernel),
    after_of_writes_sub read1 _ read1_writes (r := main_v17_3) (by decide +kernel), after_of_writes_sub read1 _ read1_writes (r := main_v17_5) (by decide +kernel),
    after_of_writes_sub cond1 _ cond1_writes (r := main_v17_3) (by decide +kernel), after_of_writes_sub cond1 _ cond1_writes (r := main_v17_5) (by decide +kernel),
    at1_ctr W c h k]
  rfl
end

end Cert.RefValue

end
-- ==== Proof.RefLoops.lean ====
/- The reference's two loops, element by element over the extended reals: after `k` trips the carried array is the moving average of
   the samples up to time `k`, and the filed array holds that average at every time before `k`. -/
module

public import proofs.«01_k».proof.Proof.RefTrips
public import Idealize.ShloMosaic.Lib.WordCmp

@[expose] public section

noncomputable section

namespace Cert.RefValue

open Cert.ReferenceIdeal Cert.ReferenceIdeal.Gen Cert.RefRun Cert.Ema
open Idealize.ShloMosaic Idealize.ShloMosaic.TcCoe Idealize.ShloMosaic.Tactic
open Idealize.SL Idealize.SL.Sem
open Idealize.ShloMosaic.StableHlo

/-- The start of a trip's slice: the trip's number in front, zero on the other axes. -/
abbrev startOf (w : BitVec 32) : Fin 3 → ℤ := fun a => ((![(fun _ => w), constantI S_ 32 0#32, constantI S_ 32 0#32] : Fin 3 → (⟨S_, .i32⟩ : BufTy).Contents (Elt Ideal)) a (Shape.Idx.first h_S_)).toInt

/-- A counter before the end of the loop is its number. -/
theorem counter_toInt (k : ℕ) (hk : k < 16384) : (Scf.iv 0#32 1#32 k).toInt = (k : ℤ) := by
  have e : Scf.iv 0#32 1#32 k = BitVec.ofNat 32 k := by simp [Scf.iv]
  rw [e]
  exact Idealize.ShloMosaic.WordCmp.toInt_ofNat_of_lt (by omega)

/-- A trip's slice starts at the trip's number, -/
theorem start_time (ht : S1x8x256.rank = S16384x8x256.rank) (k : ℕ) (hk : k < 16384) : Host.clampedStart S16384x8x256 S1x8x256 ht (startOf (Scf.iv 0#32 1#32 k)) (0 : Fin 3) = k :=
  Host.clampedStart_of_le ht _ (0 : Fin 3) k (counter_toInt k hk) (show k + 1 ≤ 16384 by omega)

/-- at the first batch, -/
theorem start_batch (ht : S1x8x256.rank = S16384x8x256.rank) (w : BitVec 32) : Host.clampedStart S16384x8x256 S1x8x256 ht (startOf w) (1 : Fin 3) = 0 :=
  Host.clampedStart_of_le ht _ (1 : Fin 3) 0 rfl (show 0 + 8 ≤ 8 by omega)

/-- and at the first channel. -/
theorem start_channel (ht : S1x8x256.rank = S16384x8x256.rank) (w : BitVec 32) : Host.clampedStart S16384x8x256 S1x8x256 ht (startOf w) (2 : Fin 3) = 0 :=
  Host.clampedStart_of_le ht _ (2 : Fin 3) 0 rfl (show 0 + 256 ≤ 256 by omega)

/-- A trip's slice, element by element: the samples of the trip's time. -/
theorem slice_apply (X : S16384x8x256.Idx → EReal) (k : ℕ) (hk : k < 16384) (b : Fin 8) (c : Fin 256) :
    shapeCast S8x256 (Host.dynamicSlice S1x8x256 X (startOf (Scf.iv 0#32 1#32 k)) sliceFits_S16384x8x256_S1x8x256) shapeCasts_S1x8x256_S8x256 (ix2 b c)
      = timeFirst X b c k := by
  pointwise
  simp only [start_time _ k hk, start_batch, start_channel, Nat.zero_add, Nat.add_zero, timeFirst, dif_pos hk, Fin.eta]

/-- A trip's update, element by element: the update at the trip's time, the operand at every other. -/
theorem update_apply (X : S16384x8x256.Idx → EReal) (Y : S8x256.Idx → EReal) (k : ℕ) (hk : k < 16384) (t : Fin 16384) (b : Fin 8) (c : Fin 256) :
    Host.dynamicUpdateSlice X (broadcastInDim S1x8x256 ![1, 2] bcast_S8x256_S1x8x256_1_2 Y) (startOf (Scf.iv 0#32 1#32 k)) updateFits_S16384x8x256_S1x8x256 (ix3 t b c)
      = if t.val = k then Y (ix2 b c) else X (ix3 t b c) := by
  pointwise
  simp only [start_time _ k hk, start_batch, start_channel, Nat.sub_zero, Nat.zero_le, and_true, Fin.eta, dite_eq_ite]
  by_cases h : t.val = k
  · rw [if_pos h, if_pos (by omega)]
  · rw [if_neg h, if_neg (by omega)]

/-! ## The first loop -/

section
variable (W : Dev nD → Valuation τ sig (Elt Ideal)) (c : Dev nD) (μ κ : EReal)
  (hμ : W c (Proc.devRef .tc main_v5_1) = fun _ => μ) (hκ : W c (Proc.devRef .tc main_v5_2) = fun _ => κ)
  (h3 : W c (Proc.devRef .tc main_v5_3) = fun _ => (0#32 : BitVec 32))
  (h4 : W c (Proc.devRef .tc main_v5_4) = fun _ => (0 : EReal)) (h5 : W c (Proc.devRef .tc main_v5_5) = fun _ => (0 : EReal))
include hμ hκ h3 h4

/-- After `k` trips of the first loop the carried array holds the moving average of the samples before time `k`. -/
theorem at0_avg_ema (k : ℕ) (hk : k ≤ 16384) (b : Fin 8) (ch : Fin 256) :
    (at0 W k c (Proc.devRef .tc main_v5_4) : S8x256.Idx → EReal) (ix2 b ch) = ema μ κ (timeFirst (W c (Proc.devRef .tc main_v5_0)) b ch) k := by
  induction k with
  | zero => exact congrFun h4 _
  | succ k ih =>
    have hs := slice_apply (W c (Proc.devRef .tc main_v5_0)) k (by omega) b ch
    have e := congrFun (at0_avg W c k h3) (ix2 b ch)
    refine e.trans ?_
    rw [hμ, hκ]
    exact congrArg₂ (· + ·) (congrArg (μ * ·) hs) (congrArg (κ * ·) (ih (by omega)))

include h5
/-- After `k` trips of the first loop the filed array holds, at every time before `k`, the moving average up to and with that time. -/
theorem at0_out_ema (k : ℕ) (hk : k ≤ 16384) (t : Fin 16384) (b : Fin 8) (ch : Fin 256) :
    (at0 W k c (Proc.devRef .tc main_v5_5) : S16384x8x256.Idx → EReal) (ix3 t b ch)
      = if t.val < k then ema μ κ (timeFirst (W c (Proc.devRef .tc main_v5_0)) b ch) (t.val + 1) else 0 := by
  induction k with
  | zero => rw [if_neg (by omega)]; exact congrFun h5 _
  | succ k ih =>
    have e := congrFun (at0_out W c k h3) (ix3 t b ch)
    refine e.trans ?_
    refine (update_apply (at0 W k c (Proc.devRef .tc main_v5_5)) (at0 W (k + 1) c (Proc.devRef .tc main_v5_4)) k (by omega) t b ch).trans ?_
    by_cases h : t.val = k
    · rw [if_pos h, if_pos (by omega), at0_avg_ema W c μ κ hμ hκ h3 h4 (k + 1) hk b ch, h]
    · rw [if_neg h, ih (by omega)]
      by_cases h' : t.val < k
      · rw [if_pos h', if_pos (by omega)]
      · rw [if_neg h', if_neg (by omega)]
end

/-! ## The second loop -/

section
variable (W : Dev nD → Valuation τ sig (Elt Ideal)) (c : Dev nD) (μ κ : EReal)
  (hμ : W c (Proc.devRef .tc main_v17_1) = fun _ => μ) (hκ : W c (Proc.devRef .tc main_v17_2) = fun _ => κ)
  (h3 : W c (Proc.devRef .tc main_v17_3) = fun _ => (0#32 : BitVec 32))
  (h4 : W c (Proc.devRef .tc main_v17_4) = fun _ => (0 : EReal)) (h5 : W c (Proc.devRef .tc main_v17_5) = fun _ => (0 : EReal))
include hμ hκ h3 h4

/-- After `k` trips of the second loop the carried array holds the moving average of the samples before time `k`. -/
theorem at1_avg_ema (k : ℕ) (hk : k ≤ 16384) (b : Fin 8) (ch : Fin 256) :
    (at1 W k c (Proc.devRef .tc main_v17_4) : S8x256.Idx → EReal) (ix2 b ch) = ema μ κ (timeFirst (W c (Proc.devRef .tc main_v17_0)) b ch) k := by
  induction k with
  | zero => exact congrFun h4 _
  | succ k ih =>
    have hs := slice_apply (W c (Proc.devRef .tc main_v17_0)) k (by omega) b ch
    have e := congrFun (at1_avg W c k h3) (ix2 b ch)
    refine e.trans ?_
    rw [hμ, hκ]
    exact congrArg₂ (· + ·) (congrArg (μ * ·) hs) (congrArg (κ * ·) (ih (by omega)))

include h5
/-- After `k` trips of the second loop the filed array holds, at every time before `k`, the moving average up to and with that time. -/
theorem at1_out_ema (k : ℕ) (hk : k ≤ 16384) (t : Fin 16384) (b : Fin 8) (ch : Fin 256) :
    (at1 W k c (Proc.devRef .tc main_v17_5) : S16384x8x256.Idx → EReal) (ix3 t b ch)
      = if t.val < k then ema μ κ (timeFirst (W c (Proc.devRef .tc main_v17_0)) b ch) (t.val + 1) else 0 := by
  induction k with
  | zero => rw [if_neg (by omega)]; exact congrFun h5 _
  | succ k ih =>
    have e := congrFun (at1_out W c k h3) (ix3 t b ch)
    refine e.trans ?_
    refine (update_apply (at1 W k c (Proc.devRef .tc main_v17_5)) (at1 W (k + 1) c (Proc.devRef .tc main_v17_4)) k (by omega) t b ch).trans ?_
    by_cases h : t.val = k
    · rw [if_pos h, if_pos (by omega), at1_avg_ema W c μ κ hμ hκ h3 h4 (k + 1) hk b ch, h]
    · rw [if_neg h, ih (by omega)]
      by_cases h' : t.val < k
      · rw [if_pos h', if_pos (by omega)]
      · rw [if_neg h', if_neg (by omega)]
end

end Cert.RefValue

end
-- ==== Proof.RefValue.lean ====
module

public import proofs.«01_k».proof.Proof.RefLoops
public import proofs.«01_k».proof.Proof.Model
public import Idealize.ShloMosaic.Lib.Pointwise

/-! What the reference computes, element by element over real arguments. -/

@[expose] public section

set_option maxRecDepth 16384

noncomputable section

namespace Cert.RefValue

open Cert.ReferenceIdeal Cert.ReferenceIdeal.Gen Cert.RefRun Cert.Ema Cert.Model Cert.Lit
open Idealize.ShloMosaic Idealize.ShloMosaic.TcCoe Idealize.SL.Sem
open Idealize.ShloMosaic.StableHlo

variable (m : (ℓ : Loc nD τ sig) → Buf (Elt Ideal) ℓ) (c : Dev nD) (w e : Fin 256 → ℝ) (x : Fin 8 → Fin 256 → ℕ → ℝ)

/-- The launch's arguments on device `c` are real: the shift weights `w`, the exponentials `e` of the log scale weights, and the samples `x`. -/
structure RealArgs : Prop where
  shifts : ∀ k, m (c, Proc.tc.devRef main_arg1) (ix1 k) = (w k : EReal)
  scales : ∀ k, (Host.exp (m (c, Proc.tc.devRef main_arg2)) : FVec Ideal S256 .f32) (ix1 k) = (e k : EReal)
  samples : ∀ b k (j : Fin 16384), m (c, Proc.tc.devRef main_arg0) (ix3 b k j) = ((x b k j.val : ℝ) : EReal)

section
variable (V : Valuation τ sig (Elt Ideal))

/-- The samples. -/
abbrev argX : S8x256x16384.Idx → EReal := V (Proc.devRef .tc main_arg0)
/-- The shift weights. -/
abbrev argShift : S256.Idx → EReal := V (Proc.devRef .tc main_arg1)
/-- The exponentials of the log scale weights. -/
abbrev expScale : S256.Idx → EReal := (Host.exp (V (Proc.devRef .tc main_arg2)) : FVec Ideal S256 .f32)
/-- The projection weights. -/
abbrev argProj : S256.Idx → EReal := V (Proc.devRef .tc main_arg3)
/-- The projection biases. -/
abbrev argBias : S256.Idx → EReal := V (Proc.devRef .tc main_arg4)
/-- The averages that the first loop filed. -/
abbrev filed0 : S16384x8x256.Idx → EReal := V (Proc.devRef .tc main_v5_5)
/-- The averages that the second loop filed. -/
abbrev filed1 : S16384x8x256.Idx → EReal := V (Proc.devRef .tc main_v17_5)
/-- The centered samples. -/
abbrev centered : S8x256x16384.Idx → EReal := V (Proc.devRef .tc main_v10)

/-- The first loop's samples: the argument, time in front. -/
theorem pre_samples (t : Fin 16384) (b : Fin 8) (k : Fin 256) :
    after preOps V (Proc.devRef .tc main_v5_0) (ix3 t b k) = V (Proc.devRef .tc main_arg0) (ix3 b k t) := by
  simp only [preOps]
  after_results
  simp only [id]
  pointwise

/-- The first loop's weight of a new sample. -/
theorem pre_fresh : after preOps V (Proc.devRef .tc main_v5_1) = fun _ => (fresh : EReal) := by
  simp only [preOps]
  after_results
  exact funext fun _ => fresh_word

/-- The first loop's weight of the average before. -/
theorem pre_stay : after preOps V (Proc.devRef .tc main_v5_2) = fun _ => (stay : EReal) := by
  simp only [preOps]
  after_results
  exact funext fun _ => stay_word

/-- The first loop's average starts at zero. -/
theorem pre_avg : after preOps V (Proc.devRef .tc main_v5_4) = fun _ => (0 : EReal) := by
  simp only [preOps]
  after_results
  exact funext fun _ => zero_word

/-- The first loop's filed averages start at zero. -/
theorem pre_out : after preOps V (Proc.devRef .tc main_v5_5) = fun _ => (0 : EReal) := by
  simp only [preOps]
  after_results
  exact funext fun _ => zero_word

/-- The centered samples between the loops. -/
theorem mid_centered (b : Fin 8) (k : Fin 256) (t : Fin 16384) :
    after midOps V (Proc.devRef .tc main_v10) (ix3 b k t)
      = argX V (ix3 b k t)
        - ∑ i : Fin 256, argShift V (ix1 i) * filed0 V (ix3 t b i) := by
  simp only [midOps]
  after_results
  pointwise

/-- The second loop's samples: the squared centered samples, time in front. -/
theorem mid_samples (t : Fin 16384) (b : Fin 8) (k : Fin 256) :
    after midOps V (Proc.devRef .tc main_v17_0) (ix3 t b k)
      = centered (after midOps V) (ix3 b k t) * centered (after midOps V) (ix3 b k t) := by
  unfold centered
  rw [mid_centered]
  simp only [midOps]
  after_results
  simp only [id]
  pointwise

/-- The second loop's weight of a new sample. -/
theorem mid_fresh : after midOps V (Proc.devRef .tc main_v17_1) = fun _ => (fresh : EReal) := by
  simp only [midOps]
  after_results
  exact funext fun _ => fresh_word

/-- The second loop's weight of the average before. -/
theorem mid_stay : after midOps V (Proc.devRef .tc main_v17_2) = fun _ => (stay : EReal) := by
  simp only [midOps]
  after_results
  exact funext fun _ => stay_word

/-- The second loop's average starts at zero. -/
theorem mid_avg : after midOps V (Proc.devRef .tc main_v17_4) = fun _ => (0 : EReal) := by
  simp only [midOps]
  after_results
  exact funext fun _ => zero_word

/-- The second loop's filed averages start at zero. -/
theorem mid_out : after midOps V (Proc.devRef .tc main_v17_5) = fun _ => (0 : EReal) := by
  simp only [midOps]
  after_results
  exact funext fun _ => zero_word

/-- The result of the last operations. -/
theorem post_result (b : Fin 8) (k : Fin 256) (t : Fin 16384) :
    after postOps V (Proc.devRef .tc main_v32) (ix3 b k t)
      = Ideal.div (centered V (ix3 b k t))
          (Ideal.sqrt ((∑ i : Fin 256, expScale V (ix1 i)
              * filed1 V (ix3 t b i)) + (tiny : EReal)))
        * argProj V (ix1 k) + argBias V (ix1 k) := by
  simp only [postOps]
  after_results
  rw [← tiny_word]
  pointwise
end

/-! ## Between the lists of operations -/

section
variable {m c w e x}

/-- The first loop files every channel's moving average. -/
theorem averages (A : RealArgs m c w e x) (t : Fin 16384) (b : Fin 8) (k : Fin 256) :
    filed0 (exit0 m c) (ix3 t b k) = ((ema fresh stay (x b k) (t.val + 1) : ℝ) : EReal) := by
  have h0 : filed0 (exit0 m c) = filed0 (at0 (entry0 m) 16384 c) :=
    after_of_writes_sub cond0 _ cond0_writes (r := main_v5_5) (by decide +kernel)
  have h := at0_out_ema (entry0 m) c (fresh : EReal) (stay : EReal) (pre_fresh _) (pre_stay _) (entry0_ctr m c) (pre_avg _) (pre_out _)
    16384 le_rfl t b k
  rw [if_pos t.isLt] at h
  rw [h0]
  refine h.trans ?_
  refine Eq.trans ?_ (ema_coe fresh stay _ (t.val + 1))
  refine ema_congr (A := EReal) _ _ _ fun j hj => ?_
  have hj' : j < 16384 := by have := t.isLt; omega
  unfold timeFirst
  rw [dif_pos hj']
  exact (pre_samples _ ⟨j, hj'⟩ b k).trans (A.samples b k ⟨j, hj'⟩)

/-- The first loop keeps an argument. -/
theorem exit0_keep (b : Ref sig .tc) (h0 : b ∉ preOps_W) (h1 : b ∉ cond0_W ++ read0_W ++ step0_W ++ write0_W ++ carry0_W) :
    exit0 m c (Proc.devRef .tc b) = m (c, Proc.tc.devRef b) := by
  have h2 : b ∉ cond0_W := fun h => h1 (by simp only [List.mem_append]; tauto)
  unfold exit0
  rw [after_of_writes_sub cond0 _ cond0_writes h2, at0_keep _ _ _ h1]
  exact after_of_writes_sub preOps _ preOps_writes h0

/-- The second loop keeps what was there before it. -/
theorem exit1_keep (b : Ref sig .tc) (h1 : b ∉ cond1_W ++ read1_W ++ step1_W ++ write1_W ++ carry1_W) :
    exit1 m c (Proc.devRef .tc b) = entry1 m c (Proc.devRef .tc b) := by
  have h2 : b ∉ cond1_W := fun h => h1 (by simp only [List.mem_append]; tauto)
  unfold exit1
  rw [after_of_writes_sub cond1 _ cond1_writes h2, at1_keep _ _ _ h1]

/-- Both loops and the operations before and between them keep an argument. -/
theorem exit1_arg (b : Ref sig .tc) (h0 : b ∉ preOps_W) (h1 : b ∉ cond0_W ++ read0_W ++ step0_W ++ write0_W ++ carry0_W)
    (h2 : b ∉ midOps_W) (h3 : b ∉ cond1_W ++ read1_W ++ step1_W ++ write1_W ++ carry1_W) :
    exit1 m c (Proc.devRef .tc b) = m (c, Proc.tc.devRef b) :=
  (exit1_keep b h3).trans ((after_of_writes_sub midOps _ midOps_writes h2).trans (exit0_keep b h0 h1))

/-- The centered samples are the samples less the shift. -/
theorem centers (A : RealArgs m c w e x) (b : Fin 8) (k : Fin 256) (t : Fin 16384) :
    centered (entry1 m c) (ix3 b k t) = ((x b k t.val - shift w (x b) t.val : ℝ) : EReal) := by
  have hx : argX (exit0 m c) (ix3 b k t) = ((x b k t.val : ℝ) : EReal) :=
    (congrFun (exit0_keep main_arg0 (by decide +kernel) (by decide +kernel)) _).trans (A.samples b k t)
  have hw : ∀ i, argShift (exit0 m c) (ix1 i) = (w i : EReal) := fun i =>
    (congrFun (exit0_keep main_arg1 (by decide +kernel) (by decide +kernel)) _).trans (A.shifts i)
  refine (mid_centered (exit0 m c) b k t).trans ?_
  rw [hx, Finset.sum_congr rfl fun i _ => by rw [hw i, averages A t b i, ← EReal.coe_mul], coe_sum, ← shift_eq, ← EReal.coe_sub]

/-- The second loop files the moving average of every channel's squared centered samples. -/
theorem squares (A : RealArgs m c w e x) (t : Fin 16384) (b : Fin 8) (k : Fin 256) :
    filed1 (exit1 m c) (ix3 t b k)
      = ((ema fresh stay (fun t => (x b k t - shift w (x b) t) * (x b k t - shift w (x b) t)) (t.val + 1) : ℝ) : EReal) := by
  have h0 : filed1 (exit1 m c) = filed1 (at1 (entry1 m) 16384 c) :=
    after_of_writes_sub cond1 _ cond1_writes (r := main_v17_5) (by decide +kernel)
  have h := at1_out_ema (entry1 m) c (fresh : EReal) (stay : EReal) (mid_fresh _) (mid_stay _) (entry1_ctr m c) (mid_avg _) (mid_out _)
    16384 le_rfl t b k
  rw [if_pos t.isLt] at h
  rw [h0]
  refine h.trans ?_
  refine Eq.trans ?_ (ema_coe fresh stay _ (t.val + 1))
  refine ema_congr (A := EReal) _ _ _ fun j hj => ?_
  have hj' : j < 16384 := by have := t.isLt; omega
  unfold timeFirst
  rw [dif_pos hj']
  refine (mid_samples (exit0 m c) ⟨j, hj'⟩ b k).trans ?_
  have hc := centers A b k ⟨j, hj'⟩
  rw [EReal.coe_mul]
  exact congrArg₂ (· * ·) hc hc

/-- Of a positive number, dividing by the square root is multiplying by the reciprocal square root. -/
theorem div_sqrt (d s : ℝ) (hs : 0 < s) : Ideal.div (d : EReal) (Ideal.sqrt (s : EReal)) = (d : EReal) * Ideal.rsqrt (s : EReal) := by
  rw [Ideal.sqrt_coe, Ideal.rsqrt_coe, if_neg hs.not_gt, if_neg hs.not_gt, if_neg hs.ne', Ideal.div_coe (Real.sqrt_ne_zero'.mpr hs), one_div]

/-- The whole result, over nonnegative scale weights. -/
theorem reference_value (A : RealArgs m c w e x) (he : ∀ i, 0 ≤ e i) (b : Fin 8) (k : Fin 256) (t : Fin 16384) :
    final m c (Proc.devRef .tc main_v32) (ix3 b k t)
      = ((x b k t.val - shift w (x b) t.val : ℝ) : EReal) * Ideal.rsqrt ((scale w e (x b) t.val + tiny : ℝ) : EReal)
          * argProj (launchContents m c) (ix1 k) + argBias (launchContents m c) (ix1 k) := by
  have hd : centered (exit1 m c) (ix3 b k t) = ((x b k t.val - shift w (x b) t.val : ℝ) : EReal) :=
    (congrFun (exit1_keep main_v10 (by decide +kernel)) _).trans (centers A b k t)
  have h2 : exit1 m c (Proc.devRef .tc main_arg2) = m (c, Proc.tc.devRef main_arg2) :=
    exit1_arg main_arg2 (by decide +kernel) (by decide +kernel) (by decide +kernel) (by decide +kernel)
  have hs : ∀ i, expScale (exit1 m c) (ix1 i) = (e i : EReal) := fun i => by
    unfold expScale
    rw [h2]
    exact A.scales i
  have h3 : argProj (exit1 m c) = argProj (launchContents m c) :=
    exit1_arg main_arg3 (by decide +kernel) (by decide +kernel) (by decide +kernel) (by decide +kernel)
  have h4 : argBias (exit1 m c) = argBias (launchContents m c) :=
    exit1_arg main_arg4 (by decide +kernel) (by decide +kernel) (by decide +kernel) (by decide +kernel)
  refine (post_result (exit1 m c) b k t).trans ?_
  rw [hd, h3, h4, Finset.sum_congr rfl fun i _ => by rw [hs i, squares A t b i, ← EReal.coe_mul], coe_sum, ← scale_eq, ← EReal.coe_add,
    div_sqrt _ _ (add_pos_of_nonneg_of_pos (scale_nonneg w e (x b) he t.val) tiny_pos)]
end

end Cert.RefValue

end
-- ==== Proof.Finite.lean ====
/- What the precondition says: the samples and the shift weights are real, and the exponentials of the log scale weights are
   nonnegative reals. -/
module

public import proofs.«01_k».proof.Defs
public import proofs.«01_k».proof.Proof.Points
public import proofs.«01_k».proof.Proof.RefValue

@[expose] public section

noncomputable section

namespace Cert.Finite

open Idealize.ShloMosaic Idealize.SL.Sem Cert.Lit

/-- The predicate's own shape facts. -/
theorem facts : Cert.Pre_finite.Facts where
  bcast_S_S8x256x16384 := by decide
  bcast_S_S256 := by decide

/-- A comparison that came out one is a strict inequality. -/
theorem lt_of_word {a b : EReal} (h : Ideal.cmp .olt a b = 1#1) : a < b := by
  by_contra hn
  have : Ideal.cmp .olt a b = 0#1 := by simp [Ideal.cmp, hn]
  rw [this] at h
  exact absurd h (by decide)

/-- A number whose absolute value is below infinity is real. -/
theorem real_of_abs {a : EReal} (h : max a (-a) < ⊤) : a = (a.toReal : EReal) := by
  refine (EReal.coe_toReal (fun ht => ?_) (fun hb => ?_)).symm
  · rw [ht] at h; simp at h
  · rw [hb] at h; simp at h

/-- The exponential of a number below infinity is a nonnegative real. -/
theorem exp_real {a : EReal} (h : a < ⊤) : Ideal.exp a = ((Ideal.exp a).toReal : EReal) ∧ 0 ≤ (Ideal.exp a).toReal := by
  induction a with
  | bot => simp
  | top => exact absurd h (lt_irrefl _)
  | coe r => rw [Ideal.exp_coe, EReal.toReal_coe]; exact ⟨rfl, (Real.exp_pos r).le⟩

/-- Arrays that agree at every place are equal. -/
theorem funext_ix3 {L R : Cert.KernelIdeal.S8x256x16384.Idx → EReal}
    (h : ∀ (b : Fin 8) (k : Fin 256) (j : Fin 16384), L (ix3 b k j) = R (ix3 b k j)) : L = R := by
  funext i
  rw [eq_ix3 i]
  exact h _ _ _

section
attribute [local instance] facts

variable (m : (ℓ : Loc Cert.KernelIdeal.nD Cert.KernelIdeal.τ Cert.KernelIdeal.sig) → Buf (Elt Ideal) ℓ) (c : Dev Cert.KernelIdeal.nD)

/-- The samples of device `c`. -/
abbrev samples : Cert.KernelIdeal.S8x256x16384.Idx → EReal := m (c, Proc.tc.devRef Cert.KernelIdeal.main_arg0)
/-- The shift weights of device `c`. -/
abbrev shifts : Cert.KernelIdeal.S256.Idx → EReal := m (c, Proc.tc.devRef Cert.KernelIdeal.main_arg1)
/-- The log scale weights of device `c`. -/
abbrev logScales : Cert.KernelIdeal.S256.Idx → EReal := m (c, Proc.tc.devRef Cert.KernelIdeal.main_arg2)

/-- The samples as real numbers, zero past the last time. -/
def xr (b : Fin 8) (k : Fin 256) (j : ℕ) : ℝ := if h : j < 16384 then (samples m c (ix3 b k ⟨j, h⟩)).toReal else 0
/-- The shift weights as real numbers. -/
def wr (k : Fin 256) : ℝ := (shifts m c (ix1 k)).toReal
/-- The exponentials of the log scale weights as real numbers. -/
def er (k : Fin 256) : ℝ := (Ideal.exp (logScales m c (ix1 k))).toReal

variable {m} (hm : Cert.Pre_KernelIdeal_finite m)
include hm

/-- Every sample is real. -/
theorem sample_real (b : Fin 8) (k : Fin 256) (j : Fin 16384) : samples m c (ix3 b k j) = ((xr m c b k j.val : ℝ) : EReal) := by
  have h := congrFun (hm c).1 (ix3 b k j)
  have h' : Ideal.cmp .olt (max (samples m c (ix3 b k j)) (-(samples m c (ix3 b k j)))) (Ideal.ofBits .f32 0x7F800000#32) = 1#1 := h
  rw [inf_word] at h'
  unfold xr
  rw [dif_pos j.isLt]
  exact real_of_abs (lt_of_word h')

/-- Every shift weight is real. -/
theorem shift_real (k : Fin 256) : shifts m c (ix1 k) = (wr m c k : EReal) := by
  have h := congrFun (hm c).2.1 (ix1 k)
  have h' : Ideal.cmp .olt (max (shifts m c (ix1 k)) (-(shifts m c (ix1 k)))) (Ideal.ofBits .f32 0x7F800000#32) = 1#1 := h
  rw [inf_word] at h'
  exact real_of_abs (lt_of_word h')

/-- Every log scale weight is below infinity. -/
theorem logScale_lt (k : Fin 256) : logScales m c (ix1 k) < ⊤ := by
  have h := congrFun (hm c).2.2 (ix1 k)
  have h' : Ideal.cmp .olt (logScales m c (ix1 k)) (Ideal.ofBits .f32 0x7F800000#32) = 1#1 := h
  rw [inf_word] at h'
  exact lt_of_word h'

/-- The kernel's arguments are real. -/
theorem kernel_args : Cert.KernelValue.RealArgs m c (wr m c) (er m c) (xr m c) where
  shifts := shift_real c hm
  scales := fun k => (exp_real (logScale_lt c hm k)).1
  samples := sample_real c hm

/-- The scale weights are nonnegative. -/
theorem er_nonneg (k : Fin 256) : 0 ≤ er m c k := (exp_real (logScale_lt c hm k)).2

variable {m' : (ℓ : Loc Cert.ReferenceIdeal.nD Cert.ReferenceIdeal.τ Cert.ReferenceIdeal.sig) → Buf (Elt Ideal) ℓ}
  (h0 : m' (c, Proc.tc.devRef Cert.ReferenceIdeal.main_arg0) = m (c, Proc.tc.devRef Cert.KernelIdeal.main_arg0))
  (h1 : m' (c, Proc.tc.devRef Cert.ReferenceIdeal.main_arg1) = m (c, Proc.tc.devRef Cert.KernelIdeal.main_arg1))
  (h2 : m' (c, Proc.tc.devRef Cert.ReferenceIdeal.main_arg2) = m (c, Proc.tc.devRef Cert.KernelIdeal.main_arg2))
  (h3 : m' (c, Proc.tc.devRef Cert.ReferenceIdeal.main_arg3) = m (c, Proc.tc.devRef Cert.KernelIdeal.main_arg3))
  (h4 : m' (c, Proc.tc.devRef Cert.ReferenceIdeal.main_arg4) = m (c, Proc.tc.devRef Cert.KernelIdeal.main_arg4))
include h0 h1 h2

/-- The reference's arguments, which are the kernel's, are the same reals. -/
theorem reference_args : Cert.RefValue.RealArgs m' c (wr m c) (er m c) (xr m c) where
  shifts := fun k => (congrFun h1 _).trans (shift_real c hm k)
  scales := fun k => (congrArg (fun a : EReal => Ideal.exp a) (congrFun h2 (ix1 k))).trans (exp_real (logScale_lt c hm k)).1
  samples := fun b k j => (congrFun h0 _).trans (sample_real c hm b k j)

include h3 h4

/-- From the same arguments, which the precondition makes real, the reference's result is the kernel's at every place. -/
theorem agree_at (b : Fin 8) (k : Fin 256) (j : Fin 16384) :
    Cert.RefRun.final m' c (Proc.devRef .tc Cert.ReferenceIdeal.main_v32) (ix3 b k j) = Cert.KernelIdeal.Value.G7 m c (ix3 b k j) := by
  have hr := Cert.RefValue.reference_value (reference_args c hm h0 h1 h2) (er_nonneg c hm) b k j
  have hk := Cert.KernelValue.kernel_value (kernel_args c hm) b k j
  unfold Cert.KernelValue.result at hk
  have e3 : Cert.RefValue.argProj (Idealize.ShloMosaic.StableHlo.launchContents m' c) (ix1 k) = m (c, Proc.tc.devRef Cert.KernelIdeal.main_arg3) (ix1 k) := congrFun h3 (ix1 k)
  have e4 : Cert.RefValue.argBias (Idealize.ShloMosaic.StableHlo.launchContents m' c) (ix1 k) = m (c, Proc.tc.devRef Cert.KernelIdeal.main_arg4) (ix1 k) := congrFun h4 (ix1 k)
  rw [e3, e4] at hr
  exact hr.trans hk.symm

/-- The reference's result is the kernel's. -/
theorem agree : Cert.RefRun.final m' c (Proc.devRef .tc Cert.ReferenceIdeal.main_v32) = Cert.KernelIdeal.Value.G7 m c := by
  have key := agree_at c hm h0 h1 h2 h3 h4
  generalize Cert.KernelIdeal.Value.G7 m c = R at key ⊢
  generalize Cert.RefRun.final m' c (Proc.devRef .tc Cert.ReferenceIdeal.main_v32) = L at key ⊢
  exact funext_ix3 key
end

end Cert.Finite

end
-- ==== Proof.lean ====
/- The certificate: the five claims about the kernel, its ideal reading and the reference. The kernel's run and its value, the
   reference's run and its value, and the equation between the two are proved in the modules under Proof/; here they meet. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference ends from every memory with its arguments and its counters as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c =>
    ⟨(h.1 c Cert.ReferenceIdeal.main_arg0 rfl).trans (Cert.RefRun.final_keep m c Cert.ReferenceIdeal.main_arg0 (by decide +kernel)),
      (h.1 c Cert.ReferenceIdeal.main_arg1 rfl).trans (Cert.RefRun.final_keep m c Cert.ReferenceIdeal.main_arg1 (by decide +kernel)),
      (h.1 c Cert.ReferenceIdeal.main_arg2 rfl).trans (Cert.RefRun.final_keep m c Cert.ReferenceIdeal.main_arg2 (by decide +kernel)),
      (h.1 c Cert.ReferenceIdeal.main_arg3 rfl).trans (Cert.RefRun.final_keep m c Cert.ReferenceIdeal.main_arg3 (by decide +kernel)),
      (h.1 c Cert.ReferenceIdeal.main_arg4 rfl).trans (Cert.RefRun.final_keep m c Cert.ReferenceIdeal.main_arg4 (by decide +kernel))⟩, h.2⟩)
    (Cert.RefRun.run m g)

/-- From arguments the precondition admits, the kernel and the reference end with the same result. -/
theorem same_result : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hm ha
  refine ⟨fun c => Cert.KernelIdeal.Value.G7 m c, Cert.KernelIdeal.Value.run m g, ?_⟩
  refine (θ_run _ _ _).mono (fun r h c => ⟨?_, (h.2.1 c)⟩) (θ_run_and (Cert.RefRun.run m' g') (reference_frame m' g'))
  obtain ⟨h0, h1, h2, h3, h4⟩ := ha c
  exact (h.1.1 c Cert.ReferenceIdeal.main_v32 rfl).trans (Cert.Finite.agree c hm h0 h1 h2 h3 h4)

/-- Every claim. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g, fun m g _ => Cert.KernelIdeal.Gen.frame m g,
    fun m g _ => reference_frame m g, fun m g _ => reference_frame m g, trivial, same_result⟩

end Cert.Proof

end
